-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_in_range : Cert.Pre_finite_in_range.Facts),
    quiescent_Kernel (hKernel := hKernel)
    ∧ quiescent_KernelIdeal (hKernelIdeal := hKernelIdeal)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S1024x128x128 : Shape := ⟨3, ![1024, 128, 128]⟩
abbrev S1024x381x1 : Shape := ⟨3, ![1024, 381, 1]⟩
abbrev S256x128x3 : Shape := ⟨3, ![256, 128, 3]⟩
abbrev S256 : Shape := ⟨1, ![256]⟩
abbrev S128x256x3 : Shape := ⟨3, ![128, 256, 3]⟩
abbrev S128 : Shape := ⟨1, ![128]⟩
abbrev S64x128x3 : Shape := ⟨3, ![64, 128, 3]⟩
abbrev S64 : Shape := ⟨1, ![64]⟩
abbrev S_ : Shape := ⟨0, ![]⟩

class Facts : Prop where
  bcast_S_S1024x128x128 : S_.BroadcastsInDim S1024x128x128 (![] : Fin 0 → Fin S1024x128x128.rank)
  reducesTo_S1024x128x128_S_d0_1_2 : S1024x128x128.ReducesTo [0, 1, 2] S_
  h_S_ : 0 < S_.numel
  bcast_S_S256x128x3 : S_.BroadcastsInDim S256x128x3 (![] : Fin 0 → Fin S256x128x3.rank)
  reducesTo_S256x128x3_S_d0_1_2 : S256x128x3.ReducesTo [0, 1, 2] S_
  bcast_S_S256 : S_.BroadcastsInDim S256 (![] : Fin 0 → Fin S256.rank)
  reducesTo_S256_S_d0 : S256.ReducesTo [0] S_
  bcast_S_S128x256x3 : S_.BroadcastsInDim S128x256x3 (![] : Fin 0 → Fin S128x256x3.rank)
  reducesTo_S128x256x3_S_d0_1_2 : S128x256x3.ReducesTo [0, 1, 2] S_
  bcast_S_S128 : S_.BroadcastsInDim S128 (![] : Fin 0 → Fin S128.rank)
  reducesTo_S128_S_d0 : S128.ReducesTo [0] S_
  bcast_S_S64x128x3 : S_.BroadcastsInDim S64x128x3 (![] : Fin 0 → Fin S64x128x3.rank)
  reducesTo_S64x128x3_S_d0_1_2 : S64x128x3.ReducesTo [0, 1, 2] S_
  bcast_S_S64 : S_.BroadcastsInDim S64 (![] : Fin 0 → Fin S64.rank)
  reducesTo_S64_S_d0 : S64.ReducesTo [0] S_
  bcast_S_S1024x381x1 : S_.BroadcastsInDim S1024x381x1 (![] : Fin 0 → Fin S1024x381x1.rank)
  reducesTo_S1024x381x1_S_d0_1_2 : S1024x381x1.ReducesTo [0, 1, 2] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v29 : IVec S1024x381x1 1) (main_v31 : IVec S1024x381x1 1) : IVec S_ 1 × IVec S_ 1 × IVec S_ 1 × IVec S_ 1 × IVec S_ 1 × IVec S_ 1 × IVec S_ 1 × IVec S_ 1 :=
  let main_v32 : IVec S1024x381x1 1 := andi main_v29 main_v31
  let main_c_14 : IVec S_ 1 := constantI S_ 1 1#1
  let main_v33 : IVec S_ 1 := (fun x v => Host.reduce IntOp.andi x v reducesTo_S1024x381x1_S_d0_1_2 h_S_) main_v32 main_c_14
  (main_v3, main_v7, main_v11, main_v15, main_v19, main_v23, main_v27, main_v33)

def fn_part1 {F : FTy → Type} [FloatOps F] (main_arg1 : IVec S1024x381x1 32) (main_arg5 : FVec F S128 .f32) (main_arg6 : FVec F S64x128x3 .f32) (main_arg7 : FVec F S64 .f32) (main_v3 : IVec S_ 1) (main_v7 : IVec S_ 1) (main_v11 : IVec S_ 1) (main_v15 : IVec S_ 1) : IVec S_ 1 × IVec S_ 1 × IVec S_ 1 × IVec S_ 1 × IVec S_ 1 × IVec S_ 1 × IVec S_ 1 × IVec S_ 1 :=
  let main_v16 : FVec F S128 .f32 := Host.absf main_arg5
  let main_cst_6 : FVec F S_ .f32 := constant S_ .f32 0x7F800000#32
  let main_v17 : FVec F S128 .f32 := broadcastInDim S128 ![] bcast_S_S128 main_cst_6
  let main_v18 : IVec S128 1 := cmpf .olt main_v16 main_v17
  let main_c_7 : IVec S_ 1 := constantI S_ 1 1#1
  let main_v19 : IVec S_ 1 := (fun x v => Host.reduce IntOp.andi x v reducesTo_S128_S_d0 h_S_) main_v18 main_c_7
  let main_v20 : FVec F S64x128x3 .f32 := Host.absf main_arg6
  let main_cst_8 : FVec F S_ .f32 := constant S_ .f32 0x7F800000#32
  let main_v21 : FVec F S64x128x3 .f32 := broadcastInDim S64x128x3 ![] bcast_S_S64x128x3 main_cst_8
  let main_v22 : IVec S64x128x3 1 := cmpf .olt main_v20 main_v21
  let main_c_9 : IVec S_ 1 := constantI S_ 1 1#1
  let main_v23 : IVec S_ 1 := (fun x v => Host.reduce IntOp.andi x v reducesTo_S64x128x3_S_d0_1_2 h_S_) main_v22 main_c_9
  let main_v24 : FVec F S64 .f32 := Host.absf main_arg7
  let main_cst_10 : FVec F S_ .f32 := constant S_ .f32 0x7F800000#32
  let main_v25 : FVec F S64 .f32 := broadcastInDim S64 ![] bcast_S_S64 main_cst_10
  let main_v26 : IVec S64 1 := cmpf .olt main_v24 main_v25
  let main_c_11 : IVec S_ 1 := constantI S_ 1 1#1
  let main_v27 : IVec S_ 1 := (fun x v => Host.reduce IntOp.andi x v reducesTo_S64_S_d0 h_S_) main_v26 main_c_11
  let main_c_12 : IVec S_ 32 := constantI S_ 32 0#32
  let main_v28 : IVec S1024x381x1 32 := broadcastInDim S1024x381x1 ![] bcast_S_S1024x381x1 main_c_12
  let main_v29 : IVec S1024x381x1 1 := cmpi .sge main_arg1 main_v28
  let main_c_13 : IVec S_ 32 := constantI S_ 32 128#32
  let main_v30 : IVec S1024x381x1 32 := broadcastInDim S1024x381x1 ![] bcast_S_S1024x381x1 main_c_13
  let main_v31 : IVec S1024x381x1 1 := cmpi .slt main_arg1 main_v30
  fn_part2 (F := F) main_v3 main_v7 main_v11 main_v15 main_v19 main_v23 main_v27 main_v29 main_v31

def fn {F : FTy → Type} [FloatOps F] (main_arg0 : FVec F S1024x128x128 .f32) (main_arg1 : IVec S1024x381x1 32) (main_arg2 : FVec F S256x128x3 .f32) (main_arg3 : FVec F S256 .f32) (main_arg4 : FVec F S128x256x3 .f32) (main_arg5 : FVec F S128 .f32) (main_arg6 : FVec F S64x128x3 .f32) (main_arg7 : FVec F S64 .f32) : IVec S_ 1 × IVec S_ 1 × IVec S_ 1 × IVec S_ 1 × IVec S_ 1 × IVec S_ 1 × IVec S_ 1 × IVec S_ 1 :=
  let main_v0 : FVec F S1024x128x128 .f32 := Host.absf main_arg0
  let main_cst : FVec F S_ .f32 := constant S_ .f32 0x7F800000#32
  let main_v1 : FVec F S1024x128x128 .f32 := broadcastInDim S1024x128x128 ![] bcast_S_S1024x128x128 main_cst
  let main_v2 : IVec S1024x128x128 1 := cmpf .olt main_v0 main_v1
  let main_c : IVec S_ 1 := constantI S_ 1 1#1
  let main_v3 : IVec S_ 1 := (fun x v => Host.reduce IntOp.andi x v reducesTo_S1024x128x128_S_d0_1_2 h_S_) main_v2 main_c
  let main_v4 : FVec F S256x128x3 .f32 := Host.absf main_arg2
  let main_cst_0 : FVec F S_ .f32 := constant S_ .f32 0x7F800000#32
  let main_v5 : FVec F S256x128x3 .f32 := broadcastInDim S256x128x3 ![] bcast_S_S256x128x3 main_cst_0
  let main_v6 : IVec S256x128x3 1 := cmpf .olt main_v4 main_v5
  let main_c_1 : IVec S_ 1 := constantI S_ 1 1#1
  let main_v7 : IVec S_ 1 := (fun x v => Host.reduce IntOp.andi x v reducesTo_S256x128x3_S_d0_1_2 h_S_) main_v6 main_c_1
  let main_v8 : FVec F S256 .f32 := Host.absf main_arg3
  let main_cst_2 : FVec F S_ .f32 := constant S_ .f32 0x7F800000#32
  let main_v9 : FVec F S256 .f32 := broadcastInDim S256 ![] bcast_S_S256 main_cst_2
  let main_v10 : IVec S256 1 := cmpf .olt main_v8 main_v9
  let main_c_3 : IVec S_ 1 := constantI S_ 1 1#1
  let main_v11 : IVec S_ 1 := (fun x v => Host.reduce IntOp.andi x v reducesTo_S256_S_d0 h_S_) main_v10 main_c_3
  let main_v12 : FVec F S128x256x3 .f32 := Host.absf main_arg4
  let main_cst_4 : FVec F S_ .f32 := constant S_ .f32 0x7F800000#32
  let main_v13 : FVec F S128x256x3 .f32 := broadcastInDim S128x256x3 ![] bcast_S_S128x256x3 main_cst_4
  let main_v14 : IVec S128x256x3 1 := cmpf .olt main_v12 main_v13
  let main_c_5 : IVec S_ 1 := constantI S_ 1 1#1
  let main_v15 : IVec S_ 1 := (fun x v => Host.reduce IntOp.andi x v reducesTo_S128x256x3_S_d0_1_2 h_S_) main_v14 main_c_5
  fn_part1 (F := F) main_arg1 main_arg5 main_arg6 main_arg7 main_v3 main_v7 main_v11 main_v15
-- ==== Kernel.lean ====
abbrev S1024x128x128 : Shape := ⟨3, ![1024, 128, 128]⟩
abbrev S1024x381x1 : Shape := ⟨3, ![1024, 381, 1]⟩
abbrev S256x128x3 : Shape := ⟨3, ![256, 128, 3]⟩
abbrev S256 : Shape := ⟨1, ![256]⟩
abbrev S128x256x3 : Shape := ⟨3, ![128, 256, 3]⟩
abbrev S128 : Shape := ⟨1, ![128]⟩
abbrev S64x128x3 : Shape := ⟨3, ![64, 128, 3]⟩
abbrev S64 : Shape := ⟨1, ![64]⟩
abbrev S1024x381 : Shape := ⟨2, ![1024, 381]⟩
abbrev S1024x127x3 : Shape := ⟨3, ![1024, 127, 3]⟩
abbrev S1024x3x127 : Shape := ⟨3, ![1024, 3, 127]⟩
abbrev S_ : Shape := ⟨0, ![]⟩
abbrev S1024x3x1 : Shape := ⟨3, ![1024, 3, 1]⟩
abbrev S1024x3x128 : Shape := ⟨3, ![1024, 3, 128]⟩
abbrev S3x256x128 : Shape := ⟨3, ![3, 256, 128]⟩
abbrev S768x128 : Shape := ⟨2, ![768, 128]⟩
abbrev S3x128x256 : Shape := ⟨3, ![3, 128, 256]⟩
abbrev S384x256 : Shape := ⟨2, ![384, 256]⟩
abbrev S3x64x128 : Shape := ⟨3, ![3, 64, 128]⟩
abbrev S192x128 : Shape := ⟨2, ![192, 128]⟩
abbrev S1x128 : Shape := ⟨2, ![1, 128]⟩
abbrev S256x1 : Shape := ⟨2, ![256, 1]⟩
abbrev S256x128 : Shape := ⟨2, ![256, 128]⟩
abbrev S1x256x1x128 : Shape := ⟨4, ![1, 256, 1, 128]⟩
abbrev S1x256x4x128 : Shape := ⟨4, ![1, 256, 4, 128]⟩
abbrev S256x512 : Shape := ⟨2, ![256, 512]⟩
abbrev S128x1 : Shape := ⟨2, ![128, 1]⟩
abbrev S128x128 : Shape := ⟨2, ![128, 128]⟩
abbrev S64x1 : Shape := ⟨2, ![64, 1]⟩
abbrev S64x128 : Shape := ⟨2, ![64, 128]⟩
abbrev S1024x1 : Shape := ⟨2, ![1024, 1]⟩
abbrev S16x128x128 : Shape := ⟨3, ![16, 128, 128]⟩
abbrev S16x3x128 : Shape := ⟨3, ![16, 3, 128]⟩
abbrev S16x1 : Shape := ⟨2, ![16, 1]⟩
abbrev S1x1x128 : Shape := ⟨3, ![1, 1, 128]⟩
abbrev S1x128x128 : Shape := ⟨3, ![1, 128, 128]⟩
abbrev S128x512 : Shape := ⟨2, ![128, 512]⟩
abbrev S1x256x128 : Shape := ⟨3, ![1, 256, 128]⟩
abbrev S1 : Shape := ⟨1, ![1]⟩
abbrev S1x1x1 : Shape := ⟨3, ![1, 1, 1]⟩
abbrev S384x512 : Shape := ⟨2, ![384, 512]⟩
abbrev S192x512 : Shape := ⟨2, ![192, 512]⟩
abbrev S1x64x128 : Shape := ⟨3, ![1, 64, 128]⟩
abbrev S1x1 : Shape := ⟨2, ![1, 1]⟩

abbrev nBuf : Space → Nat
  | .hbm => 42
  | .vmem => 12
  | .smem => 0
  | _ => 0

abbrev bufTy : (tb : Table) → Fin (tcTables nBuf tb) → BufTy
  | .hbm, ⟨0, _⟩ => ⟨S1024x128x128, .f32⟩
  | .hbm, ⟨1, _⟩ => ⟨S1024x381x1, .i32⟩
  | .hbm, ⟨2, _⟩ => ⟨S256x128x3, .f32⟩
  | .hbm, ⟨3, _⟩ => ⟨S256, .f32⟩
  | .hbm, ⟨4, _⟩ => ⟨S128x256x3, .f32⟩
  | .hbm, ⟨5, _⟩ => ⟨S128, .f32⟩
  | .hbm, ⟨6, _⟩ => ⟨S64x128x3, .f32⟩
  | .hbm, ⟨7, _⟩ => ⟨S64, .f32⟩
  | .hbm, ⟨8, _⟩ => ⟨S1024x381, .i32⟩
  | .hbm, ⟨9, _⟩ => ⟨S1024x127x3, .i32⟩
  | .hbm, ⟨10, _⟩ => ⟨S1024x3x127, .i32⟩
  | .hbm, ⟨11, _⟩ => ⟨S_, .i32⟩
  | .hbm, ⟨12, _⟩ => ⟨S1024x3x1, .i32⟩
  | .hbm, ⟨13, _⟩ => ⟨S1024x3x128, .i32⟩
  | .hbm, ⟨14, _⟩ => ⟨S3x256x128, .f32⟩
  | .hbm, ⟨15, _⟩ => ⟨S768x128, .f32⟩
  | .hbm, ⟨16, _⟩ => ⟨S3x128x256, .f32⟩
  | .hbm, ⟨17, _⟩ => ⟨S384x256, .f32⟩
  | .hbm, ⟨18, _⟩ => ⟨S3x64x128, .f32⟩
  | .hbm, ⟨19, _⟩ => ⟨S192x128, .f32⟩
  | .hbm, ⟨20, _⟩ => ⟨S128, .i32⟩
  | .hbm, ⟨21, _⟩ => ⟨S_, .i32⟩
  | .hbm, ⟨22, _⟩ => ⟨S128, .i32⟩
  | .hbm, ⟨23, _⟩ => ⟨S128, .i1⟩
  | .hbm, ⟨24, _⟩ => ⟨S128, .f32⟩
  | .hbm, ⟨25, _⟩ => ⟨S1x128, .f32⟩
  | .hbm, ⟨26, _⟩ => ⟨S256x1, .f32⟩
  | .hbm, ⟨27, _⟩ => ⟨S256x128, .f32⟩
  | .hbm, ⟨28, _⟩ => ⟨S256x128, .f32⟩
  | .hbm, ⟨29, _⟩ => ⟨S256x128, .f32⟩
  | .hbm, ⟨30, _⟩ => ⟨S1x256x1x128, .f32⟩
  | .hbm, ⟨31, _⟩ => ⟨S1x256x4x128, .f32⟩
  | .hbm, ⟨32, _⟩ => ⟨S256x512, .f32⟩
  | .hbm, ⟨33, _⟩ => ⟨S128x1, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S64x1, .f32⟩
  | .hbm, ⟨38, _⟩ => ⟨S64x128, .f32⟩
  | .hbm, ⟨39, _⟩ => ⟨S64x128, .f32⟩
  | .hbm, ⟨40, _⟩ => ⟨S64x128, .f32⟩
  | .hbm, ⟨41, _⟩ => ⟨S1024x1, .f32⟩
  | .local _ .vmem, ⟨0, _⟩ => ⟨S16x128x128, .f32⟩
  | .local _ .vmem, ⟨1, _⟩ => ⟨S16x128x128, .f32⟩
  | .local _ .vmem, ⟨2, _⟩ => ⟨S16x3x128, .i32⟩
  | .local _ .vmem, ⟨3, _⟩ => ⟨S16x3x128, .i32⟩
  | .local _ .vmem, ⟨4, _⟩ => ⟨S768x128, .f32⟩
  | .local _ .vmem, ⟨5, _⟩ => ⟨S384x256, .f32⟩
  | .local _ .vmem, ⟨6, _⟩ => ⟨S192x128, .f32⟩
  | .local _ .vmem, ⟨7, _⟩ => ⟨S256x512, .f32⟩
  | .local _ .vmem, ⟨8, _⟩ => ⟨S128x128, .f32⟩
  | .local _ .vmem, ⟨9, _⟩ => ⟨S64x128, .f32⟩
  | .local _ .vmem, ⟨10, _⟩ => ⟨S16x1, .f32⟩
  | .local _ .vmem, ⟨11, _⟩ => ⟨S16x1, .f32⟩
  | _, _ => ⟨S1024x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x3x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S192x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S16x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S1024x128x128 : Shape := ⟨3, ![1024, 128, 128]⟩
abbrev S1024x381x1 : Shape := ⟨3, ![1024, 381, 1]⟩
abbrev S256x128x3 : Shape := ⟨3, ![256, 128, 3]⟩
abbrev S256 : Shape := ⟨1, ![256]⟩
abbrev S128x256x3 : Shape := ⟨3, ![128, 256, 3]⟩
abbrev S128 : Shape := ⟨1, ![128]⟩
abbrev S64x128x3 : Shape := ⟨3, ![64, 128, 3]⟩
abbrev S64 : Shape := ⟨1, ![64]⟩
abbrev S1024x381x128 : Shape := ⟨3, ![1024, 381, 128]⟩
abbrev S1024x128x381 : Shape := ⟨3, ![1024, 128, 381]⟩
abbrev S_ : Shape := ⟨0, ![]⟩
abbrev S1024x128x381x1 : Shape := ⟨4, ![1024, 128, 381, 1]⟩
abbrev S1 : Shape := ⟨1, ![1]⟩
abbrev S1x1x1x1 : Shape := ⟨4, ![1, 1, 1, 1]⟩
abbrev S1024x128x127x3 : Shape := ⟨4, ![1024, 128, 127, 3]⟩
abbrev S256x1024x127 : Shape := ⟨3, ![256, 1024, 127]⟩
abbrev S1024x256x127 : Shape := ⟨3, ![1024, 256, 127]⟩
abbrev S1x256x1 : Shape := ⟨3, ![1, 256, 1]⟩
abbrev S1024x256x1 : Shape := ⟨3, ![1024, 256, 1]⟩
abbrev S1024x256x128 : Shape := ⟨3, ![1024, 256, 128]⟩
abbrev S1024 : Shape := ⟨1, ![1024]⟩
abbrev S1024x1x1 : Shape := ⟨3, ![1024, 1, 1]⟩
abbrev S1024x381x256 : Shape := ⟨3, ![1024, 381, 256]⟩
abbrev S1024x256x381 : Shape := ⟨3, ![1024, 256, 381]⟩
abbrev S1024x256x381x1 : Shape := ⟨4, ![1024, 256, 381, 1]⟩
abbrev S1024x256x127x3 : Shape := ⟨4, ![1024, 256, 127, 3]⟩
abbrev S128x1024x127 : Shape := ⟨3, ![128, 1024, 127]⟩
abbrev S1024x128x127 : Shape := ⟨3, ![1024, 128, 127]⟩
abbrev S1x128x1 : Shape := ⟨3, ![1, 128, 1]⟩
abbrev S1024x128x1 : Shape := ⟨3, ![1024, 128, 1]⟩
abbrev S64x1024x127 : Shape := ⟨3, ![64, 1024, 127]⟩
abbrev S1024x64x127 : Shape := ⟨3, ![1024, 64, 127]⟩
abbrev S1x64x1 : Shape := ⟨3, ![1, 64, 1]⟩
abbrev S1024x64x1 : Shape := ⟨3, ![1024, 64, 1]⟩
abbrev S1024x64x128 : Shape := ⟨3, ![1024, 64, 128]⟩
abbrev S1024x64 : Shape := ⟨2, ![1024, 64]⟩
abbrev S1024x1 : Shape := ⟨2, ![1024, 1]⟩

abbrev nBuf : Space → Nat
  | .hbm => 242
  | .vmem => 0
  | .smem => 0
  | _ => 0

abbrev hbmTy0_0 (i : Nat) : BufTy := match i % 128 with
  | 0 => ⟨S1024x128x128, .f32⟩
  | 1 => ⟨S1024x381x1, .i32⟩
  | 2 => ⟨S256x128x3, .f32⟩
  | 3 => ⟨S256, .f32⟩
  | 4 => ⟨S128x256x3, .f32⟩
  | 5 => ⟨S128, .f32⟩
  | 6 => ⟨S64x128x3, .f32⟩
  | 7 => ⟨S64, .f32⟩
  | 8 => ⟨S1024x381x128, .i32⟩
  | 9 => ⟨S1024x128x381, .i32⟩
  | 10 => ⟨S_, .i32⟩
  | 11 => ⟨S1024x128x381, .i32⟩
  | 12 => ⟨S1024x128x381, .i1⟩
  | 13 => ⟨S_, .i32⟩
  | 14 => ⟨S1024x128x381, .i32⟩
  | 15 => ⟨S1024x128x381, .i32⟩
  | 16 => ⟨S1024x128x381, .i32⟩
  | 17 => ⟨S1024x128x381x1, .i32⟩
  | 18 => ⟨S1, .i32⟩
  | 19 => ⟨S_, .i32⟩
  | 20 => ⟨S1024x128x381x1, .i32⟩
  | 21 => ⟨S1024x128x381x1, .i1⟩
  | 22 => ⟨S1x1x1x1, .i32⟩
  | 23 => ⟨S1024x128x381x1, .i32⟩
  | 24 => ⟨S1024x128x381x1, .i1⟩
  | 25 => ⟨S1024x128x381x1, .i1⟩
  | 26 => ⟨S_, .i1⟩
  | 27 => ⟨S1024x128x381, .i1⟩
  | 28 => ⟨S1024x128x381, .f32⟩
  | 29 => ⟨S_, .f32⟩
  | 30 => ⟨S1024x128x381, .f32⟩
  | 31 => ⟨S1024x128x381, .f32⟩
  | 32 => ⟨S1024x128x127x3, .f32⟩
  | 33 => ⟨S256x1024x127, .f32⟩
  | 34 => ⟨S1024x256x127, .f32⟩
  | 35 => ⟨S1x256x1, .f32⟩
  | 36 => ⟨S1024x256x127, .f32⟩
  | 37 => ⟨S1024x256x127, .f32⟩
  | 38 => ⟨S_, .f32⟩
  | 39 => ⟨S1024x256x1, .f32⟩
  | 40 => ⟨S1024x256x128, .f32⟩
  | 41 => ⟨S_, .f32⟩
  | 42 => ⟨S1024, .f32⟩
  | 43 => ⟨S1024x1x1, .f32⟩
  | 44 => ⟨S_, .f32⟩
  | 45 => ⟨S1024x1x1, .f32⟩
  | 46 => ⟨S1024x1x1, .f32⟩
  | 47 => ⟨S_, .i32⟩
  | 48 => ⟨S_, .f32⟩
  | 49 => ⟨S1024, .f32⟩
  | 50 => ⟨S1024x1x1, .f32⟩
  | 51 => ⟨S_, .f32⟩
  | 52 => ⟨S1024x1x1, .f32⟩
  | 53 => ⟨S1024x1x1, .f32⟩
  | 54 => ⟨S1024x256x128, .f32⟩
  | 55 => ⟨S1024x256x128, .f32⟩
  | 56 => ⟨S1024x256x128, .f32⟩
  | 57 => ⟨S_, .f32⟩
  | 58 => ⟨S_, .f32⟩
  | 59 => ⟨S_, .f32⟩
  | 60 => ⟨S_, .f32⟩
  | 61 => ⟨S1024, .f32⟩
  | 62 => ⟨S1024x1x1, .f32⟩
  | 63 => ⟨S1024x1x1, .f32⟩
  | 64 => ⟨S1024x1x1, .f32⟩
  | 65 => ⟨S_, .f32⟩
  | 66 => ⟨S_, .i1⟩
  | 67 => ⟨S_, .f32⟩
  | 68 => ⟨S_, .f32⟩
  | 69 => ⟨S1024x1x1, .f32⟩
  | 70 => ⟨S1024x1x1, .f32⟩
  | 71 => ⟨S1024x1x1, .f32⟩
  | 72 => ⟨S1024x256x128, .f32⟩
  | 73 => ⟨S1024x256x128, .f32⟩
  | 74 => ⟨S_, .f32⟩
  | 75 => ⟨S1024x1x1, .f32⟩
  | 76 => ⟨S1024x1x1, .f32⟩
  | 77 => ⟨S1024x256x128, .f32⟩
  | 78 => ⟨S1024x256x128, .f32⟩
  | 79 => ⟨S_, .f32⟩
  | 80 => ⟨S_, .f32⟩
  | 81 => ⟨S1024x256x128, .f32⟩
  | 82 => ⟨S1024x256x128, .i1⟩
  | 83 => ⟨S_, .f32⟩
  | 84 => ⟨S1024x256x128, .f32⟩
  | 85 => ⟨S1024x256x128, .f32⟩
  | 86 => ⟨S1024x256x128, .f32⟩
  | 87 => ⟨S1024x381x256, .i32⟩
  | 88 => ⟨S1024x256x381, .i32⟩
  | 89 => ⟨S_, .i32⟩
  | 90 => ⟨S1024x256x381, .i32⟩
  | 91 => ⟨S1024x256x381, .i1⟩
  | 92 => ⟨S_, .i32⟩
  | 93 => ⟨S1024x256x381, .i32⟩
  | 94 => ⟨S1024x256x381, .i32⟩
  | 95 => ⟨S1024x256x381, .i32⟩
  | 96 => ⟨S1024x256x381x1, .i32⟩
  | 97 => ⟨S1, .i32⟩
  | 98 => ⟨S_, .i32⟩
  | 99 => ⟨S1024x256x381x1, .i32⟩
  | 100 => ⟨S1024x256x381x1, .i1⟩
  | 101 => ⟨S1x1x1x1, .i32⟩
  | 102 => ⟨S1024x256x381x1, .i32⟩
  | 103 => ⟨S1024x256x381x1, .i1⟩
  | 104 => ⟨S1024x256x381x1, .i1⟩
  | 105 => ⟨S_, .i1⟩
  | 106 => ⟨S1024x256x381, .i1⟩
  | 107 => ⟨S1024x256x381, .f32⟩
  | 108 => ⟨S_, .f32⟩
  | 109 => ⟨S1024x256x381, .f32⟩
  | 110 => ⟨S1024x256x381, .f32⟩
  | 111 => ⟨S1024x256x127x3, .f32⟩
  | 112 => ⟨S128x1024x127, .f32⟩
  | 113 => ⟨S1024x128x127, .f32⟩
  | 114 => ⟨S1x128x1, .f32⟩
  | 115 => ⟨S1024x128x127, .f32⟩
  | 116 => ⟨S1024x128x127, .f32⟩
  | 117 => ⟨S_, .f32⟩
  | 118 => ⟨S1024x128x1, .f32⟩
  | 119 => ⟨S1024x128x128, .f32⟩
  | 120 => ⟨S_, .f32⟩
  | 121 => ⟨S1024, .f32⟩
  | 122 => ⟨S1024x1x1, .f32⟩
  | 123 => ⟨S_, .f32⟩
  | 124 => ⟨S1024x1x1, .f32⟩
  | 125 => ⟨S1024x1x1, .f32⟩
  | 126 => ⟨S_, .i32⟩
  | 127 => ⟨S_, .f32⟩
  | _ => ⟨S1024x128x128, .f32⟩

abbrev hbmTy0_1 (i : Nat) : BufTy := match i % 128 with
  | 0 => ⟨S1024, .f32⟩
  | 1 => ⟨S1024x1x1, .f32⟩
  | 2 => ⟨S_, .f32⟩
  | 3 => ⟨S1024x1x1, .f32⟩
  | 4 => ⟨S1024x1x1, .f32⟩
  | 5 => ⟨S1024x128x128, .f32⟩
  | 6 => ⟨S1024x128x128, .f32⟩
  | 7 => ⟨S1024x128x128, .f32⟩
  | 8 => ⟨S_, .f32⟩
  | 9 => ⟨S_, .f32⟩
  | 10 => ⟨S_, .f32⟩
  | 11 => ⟨S_, .f32⟩
  | 12 => ⟨S1024, .f32⟩
  | 13 => ⟨S1024x1x1, .f32⟩
  | 14 => ⟨S1024x1x1, .f32⟩
  | 15 => ⟨S1024x1x1, .f32⟩
  | 16 => ⟨S_, .f32⟩
  | 17 => ⟨S_, .i1⟩
  | 18 => ⟨S_, .f32⟩
  | 19 => ⟨S_, .f32⟩
  | 20 => ⟨S1024x1x1, .f32⟩
  | 21 => ⟨S1024x1x1, .f32⟩
  | 22 => ⟨S1024x1x1, .f32⟩
  | 23 => ⟨S1024x128x128, .f32⟩
  | 24 => ⟨S1024x128x128, .f32⟩
  | 25 => ⟨S_, .f32⟩
  | 26 => ⟨S1024x1x1, .f32⟩
  | 27 => ⟨S1024x1x1, .f32⟩
  | 28 => ⟨S1024x128x128, .f32⟩
  | 29 => ⟨S1024x128x128, .f32⟩
  | 30 => ⟨S_, .f32⟩
  | 31 => ⟨S_, .f32⟩
  | 32 => ⟨S1024x128x128, .f32⟩
  | 33 => ⟨S1024x128x128, .i1⟩
  | 34 => ⟨S_, .f32⟩
  | 35 => ⟨S1024x128x128, .f32⟩
  | 36 => ⟨S1024x128x128, .f32⟩
  | 37 => ⟨S1024x128x128, .f32⟩
  | 38 => ⟨S1024x381x128, .i32⟩
  | 39 => ⟨S1024x128x381, .i32⟩
  | 40 => ⟨S_, .i32⟩
  | 41 => ⟨S1024x128x381, .i32⟩
  | 42 => ⟨S1024x128x381, .i1⟩
  | 43 => ⟨S_, .i32⟩
  | 44 => ⟨S1024x128x381, .i32⟩
  | 45 => ⟨S1024x128x381, .i32⟩
  | 46 => ⟨S1024x128x381, .i32⟩
  | 47 => ⟨S1024x128x381x1, .i32⟩
  | 48 => ⟨S1, .i32⟩
  | 49 => ⟨S_, .i32⟩
  | 50 => ⟨S1024x128x381x1, .i32⟩
  | 51 => ⟨S1024x128x381x1, .i1⟩
  | 52 => ⟨S1x1x1x1, .i32⟩
  | 53 => ⟨S1024x128x381x1, .i32⟩
  | 54 => ⟨S1024x128x381x1, .i1⟩
  | 55 => ⟨S1024x128x381x1, .i1⟩
  | 56 => ⟨S_, .i1⟩
  | 57 => ⟨S1024x128x381, .i1⟩
  | 58 => ⟨S1024x128x381, .f32⟩
  | 59 => ⟨S_, .f32⟩
  | 60 => ⟨S1024x128x381, .f32⟩
  | 61 => ⟨S1024x128x381, .f32⟩
  | 62 => ⟨S1024x128x127x3, .f32⟩
  | 63 => ⟨S64x1024x127, .f32⟩
  | 64 => ⟨S1024x64x127, .f32⟩
  | 65 => ⟨S1x64x1, .f32⟩
  | 66 => ⟨S1024x64x127, .f32⟩
  | 67 => ⟨S1024x64x127, .f32⟩
  | 68 => ⟨S_, .f32⟩
  | 69 => ⟨S1024x64x1, .f32⟩
  | 70 => ⟨S1024x64x128, .f32⟩
  | 71 => ⟨S_, .f32⟩
  | 72 => ⟨S1024, .f32⟩
  | 73 => ⟨S1024x1x1, .f32⟩
  | 74 => ⟨S_, .f32⟩
  | 75 => ⟨S1024x1x1, .f32⟩
  | 76 => ⟨S1024x1x1, .f32⟩
  | 77 => ⟨S_, .i32⟩
  | 78 => ⟨S_, .f32⟩
  | 79 => ⟨S1024, .f32⟩
  | 80 => ⟨S1024x1x1, .f32⟩
  | 81 => ⟨S_, .f32⟩
  | 82 => ⟨S1024x1x1, .f32⟩
  | 83 => ⟨S1024x1x1, .f32⟩
  | 84 => ⟨S1024x64x128, .f32⟩
  | 85 => ⟨S1024x64x128, .f32⟩
  | 86 => ⟨S1024x64x128, .f32⟩
  | 87 => ⟨S_, .f32⟩
  | 88 => ⟨S_, .f32⟩
  | 89 => ⟨S_, .f32⟩
  | 90 => ⟨S_, .f32⟩
  | 91 => ⟨S1024, .f32⟩
  | 92 => ⟨S1024x1x1, .f32⟩
  | 93 => ⟨S1024x1x1, .f32⟩
  | 94 => ⟨S1024x1x1, .f32⟩
  | 95 => ⟨S_, .f32⟩
  | 96 => ⟨S_, .i1⟩
  | 97 => ⟨S_, .f32⟩
  | 98 => ⟨S_, .f32⟩
  | 99 => ⟨S1024x1x1, .f32⟩
  | 100 => ⟨S1024x1x1, .f32⟩
  | 101 => ⟨S1024x1x1, .f32⟩
  | 102 => ⟨S1024x64x128, .f32⟩
  | 103 => ⟨S1024x64x128, .f32⟩
  | 104 => ⟨S_, .f32⟩
  | 105 => ⟨S1024x1x1, .f32⟩
  | 106 => ⟨S1024x1x1, .f32⟩
  | 107 => ⟨S1024x64x128, .f32⟩
  | 108 => ⟨S1024x64x128, .f32⟩
  | 109 => ⟨S_, .f32⟩
  | 110 => ⟨S1024x64, .f32⟩
  | 111 => ⟨S_, .f32⟩
  | 112 => ⟨S1024, .f32⟩
  | 113 => ⟨S1024x1, .f32⟩
  | _ => ⟨S1024x128x128, .f32⟩

abbrev hbmTy (i : Nat) : BufTy := match i / 128 with
  | 0 => hbmTy0_0 i
  | 1 => hbmTy0_1 i
  | _ => ⟨S1024x128x128, .f32⟩

abbrev bufTy : (tb : Table) → Fin (tcTables nBuf tb) → BufTy
  | .hbm, ⟨i, _⟩ => hbmTy i
  | _, _ => ⟨S1024x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_cst : Ref sig .tc := ⟨.hbm, 29, rfl⟩
abbrev main_call0_v14 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_cst : Ref sig .tc := ⟨.hbm, 38, rfl⟩
abbrev main_v9 : Ref sig .tc := ⟨.hbm, 39, rfl⟩
abbrev main_v10 : Ref sig .tc := ⟨.hbm, 40, rfl⟩
abbrev main_cst_0 : Ref sig .tc := ⟨.hbm, 41, rfl⟩
abbrev main_v11 : Ref sig .tc := ⟨.hbm, 42, rfl⟩
abbrev main_v12 : Ref sig .tc := ⟨.hbm, 43, rfl⟩
abbrev main_cst_1 : Ref sig .tc := ⟨.hbm, 44, rfl⟩
abbrev main_v13 : Ref sig .tc := ⟨.hbm, 45, rfl⟩
abbrev main_v14 : Ref sig .tc := ⟨.hbm, 46, rfl⟩
abbrev main_c : Ref sig .tc := ⟨.hbm, 47, rfl⟩
abbrev main_call1_call0_cst : Ref sig .tc := ⟨.hbm, 48, rfl⟩
abbrev main_call1_call0_v0 : Ref sig .tc := ⟨.hbm, 49, rfl⟩
abbrev main_call1_call0_v1 : Ref sig .tc := ⟨.hbm, 50, rfl⟩
abbrev main_call1_call0_cst_0 : Ref sig .tc := ⟨.hbm, 51, rfl⟩
abbrev main_call1_call0_v2 : Ref sig .tc := ⟨.hbm, 52, rfl⟩
abbrev main_call1_call0_v3 : Ref sig .tc := ⟨.hbm, 53, rfl⟩
abbrev main_call1_call0_v4 : Ref sig .tc := ⟨.hbm, 54, rfl⟩
abbrev main_call1_call0_v5 : Ref sig .tc := ⟨.hbm, 55, rfl⟩
abbrev main_call1_call0_v6 : Ref sig .tc := ⟨.hbm, 56, rfl⟩
abbrev main_call1_call0_v7 : Ref sig .tc := ⟨.hbm, 57, rfl⟩
abbrev main_call1_call0_cst_1 : Ref sig .tc := ⟨.hbm, 58, rfl⟩
abbrev main_call1_call0_v8 : Ref sig .tc := ⟨.hbm, 59, rfl⟩
abbrev main_call1_call0_cst_2 : Ref sig .tc := ⟨.hbm, 60, rfl⟩
abbrev main_call1_call0_v9 : Ref sig .tc := ⟨.hbm, 61, rfl⟩
abbrev main_call1_call0_v10 : Ref sig .tc := ⟨.hbm, 62, rfl⟩
abbrev main_call1_call0_v11 : Ref sig .tc := ⟨.hbm, 63, rfl⟩
abbrev main_call1_call0_v12 : Ref sig .tc := ⟨.hbm, 64, rfl⟩
abbrev main_call1_call0_cst_3 : Ref sig .tc := ⟨.hbm, 65, rfl⟩
abbrev main_call1_call0_v13 : Ref sig .tc := ⟨.hbm, 66, rfl⟩
abbrev main_call1_call0_cst_4 : Ref sig .tc := ⟨.hbm, 67, rfl⟩
abbrev main_call1_call0_call0_v0 : Ref sig .tc := ⟨.hbm, 68, rfl⟩
abbrev main_call1_call0_call0_v1 : Ref sig .tc := ⟨.hbm, 69, rfl⟩
abbrev main_call1_v0 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_cst_2 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_cst_3 : Ref sig .tc := ⟨.hbm, 79, rfl⟩
abbrev main_call2_cst : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_v22 : Ref sig .tc := ⟨.hbm, 86, rfl⟩
abbrev main_v23 : Ref sig .tc := ⟨.hbm, 87, rfl⟩
abbrev main_v24 : Ref sig .tc := ⟨.hbm, 88, rfl⟩
abbrev main_call3_c : Ref sig .tc := ⟨.hbm, 89, rfl⟩
abbrev main_call3_v0 : Ref sig .tc := ⟨.hbm, 90, rfl⟩
abbrev main_call3_v1 : Ref sig .tc := ⟨.hbm, 91, rfl⟩
abbrev main_call3_c_0 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_v5 : Ref sig .tc := ⟨.hbm, 96, rfl⟩
abbrev main_call3_c_1 : Ref sig .tc := ⟨.hbm, 97, rfl⟩
abbrev main_call3_c_2 : Ref sig .tc := ⟨.hbm, 98, rfl⟩
abbrev main_call3_v6 : Ref sig .tc := ⟨.hbm, 99, rfl⟩
abbrev main_call3_v7 : Ref sig .tc := ⟨.hbm, 100, rfl⟩
abbrev main_call3_v8 : Ref sig .tc := ⟨.hbm, 101, rfl⟩
abbrev main_call3_v9 : Ref sig .tc := ⟨.hbm, 102, rfl⟩
abbrev main_call3_v10 : Ref sig .tc := ⟨.hbm, 103, rfl⟩
abbrev main_call3_v11 : Ref sig .tc := ⟨.hbm, 104, rfl⟩
abbrev main_call3_c_3 : Ref sig .tc := ⟨.hbm, 105, rfl⟩
abbrev main_call3_v12 : Ref sig .tc := ⟨.hbm, 106, rfl⟩
abbrev main_call3_v13 : Ref sig .tc := ⟨.hbm, 107, rfl⟩
abbrev main_call3_cst : Ref sig .tc := ⟨.hbm, 108, rfl⟩
abbrev main_call3_v14 : Ref sig .tc := ⟨.hbm, 109, rfl⟩
abbrev main_v25 : Ref sig .tc := ⟨.hbm, 110, rfl⟩
abbrev main_v26 : Ref sig .tc := ⟨.hbm, 111, rfl⟩
abbrev main_v27 : Ref sig .tc := ⟨.hbm, 112, rfl⟩
abbrev main_v28 : Ref sig .tc := ⟨.hbm, 113, rfl⟩
abbrev main_v29 : Ref sig .tc := ⟨.hbm, 114, rfl⟩
abbrev main_v30 : Ref sig .tc := ⟨.hbm, 115, rfl⟩
abbrev main_v31 : Ref sig .tc := ⟨.hbm, 116, rfl⟩
abbrev main_cst_4 : Ref sig .tc := ⟨.hbm, 117, rfl⟩
abbrev main_v32 : Ref sig .tc := ⟨.hbm, 118, rfl⟩
abbrev main_v33 : Ref sig .tc := ⟨.hbm, 119, rfl⟩
abbrev main_cst_5 : Ref sig .tc := ⟨.hbm, 120, rfl⟩
abbrev main_v34 : Ref sig .tc := ⟨.hbm, 121, rfl⟩
abbrev main_v35 : Ref sig .tc := ⟨.hbm, 122, rfl⟩
abbrev main_cst_6 : Ref sig .tc := ⟨.hbm, 123, rfl⟩
abbrev main_v36 : Ref sig .tc := ⟨.hbm, 124, rfl⟩
abbrev main_v37 : Ref sig .tc := ⟨.hbm, 125, rfl⟩
abbrev main_c_7 : Ref sig .tc := ⟨.hbm, 126, rfl⟩
abbrev main_call4_call0_cst : Ref sig .tc := ⟨.hbm, 127, rfl⟩
abbrev main_call4_call0_v0 : Ref sig .tc := ⟨.hbm, 128, rfl⟩
abbrev main_call4_call0_v1 : Ref sig .tc := ⟨.hbm, 129, rfl⟩
abbrev main_call4_call0_cst_0 : Ref sig .tc := ⟨.hbm, 130, rfl⟩
abbrev main_call4_call0_v2 : Ref sig .tc := ⟨.hbm, 131, rfl⟩
abbrev main_call4_call0_v3 : Ref sig .tc := ⟨.hbm, 132, rfl⟩
abbrev main_call4_call0_v4 : Ref sig .tc := ⟨.hbm, 133, rfl⟩
abbrev main_call4_call0_v5 : Ref sig .tc := ⟨.hbm, 134, rfl⟩
abbrev main_call4_call0_v6 : Ref sig .tc := ⟨.hbm, 135, rfl⟩
abbrev main_call4_call0_v7 : Ref sig .tc := ⟨.hbm, 136, rfl⟩
abbrev main_call4_call0_cst_1 : Ref sig .tc := ⟨.hbm, 137, rfl⟩
abbrev main_call4_call0_v8 : Ref sig .tc := ⟨.hbm, 138, rfl⟩
abbrev main_call4_call0_cst_2 : Ref sig .tc := ⟨.hbm, 139, rfl⟩
abbrev main_call4_call0_v9 : Ref sig .tc := ⟨.hbm, 140, rfl⟩
abbrev main_call4_call0_v10 : Ref sig .tc := ⟨.hbm, 141, rfl⟩
abbrev main_call4_call0_v11 : Ref sig .tc := ⟨.hbm, 142, rfl⟩
abbrev main_call4_call0_v12 : Ref sig .tc := ⟨.hbm, 143, rfl⟩
abbrev main_call4_call0_cst_3 : Ref sig .tc := ⟨.hbm, 144, rfl⟩
abbrev main_call4_call0_v13 : Ref sig .tc := ⟨.hbm, 145, rfl⟩
abbrev main_call4_call0_cst_4 : Ref sig .tc := ⟨.hbm, 146, rfl⟩
abbrev main_call4_call0_call0_v0 : Ref sig .tc := ⟨.hbm, 147, rfl⟩
abbrev main_call4_call0_call0_v1 : Ref sig .tc := ⟨.hbm, 148, rfl⟩
abbrev main_call4_v0 : Ref sig .tc := ⟨.hbm, 149, rfl⟩
abbrev main_v38 : Ref sig .tc := ⟨.hbm, 150, rfl⟩
abbrev main_v39 : Ref sig .tc := ⟨.hbm, 151, rfl⟩
abbrev main_v40 : Ref sig .tc := ⟨.hbm, 152, rfl⟩
abbrev main_cst_8 : Ref sig .tc := ⟨.hbm, 153, rfl⟩
abbrev main_v41 : Ref sig .tc := ⟨.hbm, 154, rfl⟩
abbrev main_v42 : Ref sig .tc := ⟨.hbm, 155, rfl⟩
abbrev main_v43 : Ref sig .tc := ⟨.hbm, 156, rfl⟩
abbrev main_v44 : Ref sig .tc := ⟨.hbm, 157, rfl⟩
abbrev main_cst_9 : Ref sig .tc := ⟨.hbm, 158, rfl⟩
abbrev main_call5_cst : Ref sig .tc := ⟨.hbm, 159, rfl⟩
abbrev main_call5_v0 : Ref sig .tc := ⟨.hbm, 160, rfl⟩
abbrev main_call5_v1 : Ref sig .tc := ⟨.hbm, 161, rfl⟩
abbrev main_call5_v2 : Ref sig .tc := ⟨.hbm, 162, rfl⟩
abbrev main_call5_v3 : Ref sig .tc := ⟨.hbm, 163, rfl⟩
abbrev main_call5_v4 : Ref sig .tc := ⟨.hbm, 164, rfl⟩
abbrev main_v45 : Ref sig .tc := ⟨.hbm, 165, rfl⟩
abbrev main_v46 : Ref sig .tc := ⟨.hbm, 166, rfl⟩
abbrev main_v47 : Ref sig .tc := ⟨.hbm, 167, rfl⟩
abbrev main_call6_c : Ref sig .tc := ⟨.hbm, 168, rfl⟩
abbrev main_call6_v0 : Ref sig .tc := ⟨.hbm, 169, rfl⟩
abbrev main_call6_v1 : Ref sig .tc := ⟨.hbm, 170, rfl⟩
abbrev main_call6_c_0 : Ref sig .tc := ⟨.hbm, 171, rfl⟩
abbrev main_call6_v2 : Ref sig .tc := ⟨.hbm, 172, rfl⟩
abbrev main_call6_v3 : Ref sig .tc := ⟨.hbm, 173, rfl⟩
abbrev main_call6_v4 : Ref sig .tc := ⟨.hbm, 174, rfl⟩
abbrev main_call6_v5 : Ref sig .tc := ⟨.hbm, 175, rfl⟩
abbrev main_call6_c_1 : Ref sig .tc := ⟨.hbm, 176, rfl⟩
abbrev main_call6_c_2 : Ref sig .tc := ⟨.hbm, 177, rfl⟩
abbrev main_call6_v6 : Ref sig .tc := ⟨.hbm, 178, rfl⟩
abbrev main_call6_v7 : Ref sig .tc := ⟨.hbm, 179, rfl⟩
abbrev main_call6_v8 : Ref sig .tc := ⟨.hbm, 180, rfl⟩
abbrev main_call6_v9 : Ref sig .tc := ⟨.hbm, 181, rfl⟩
abbrev main_call6_v10 : Ref sig .tc := ⟨.hbm, 182, rfl⟩
abbrev main_call6_v11 : Ref sig .tc := ⟨.hbm, 183, rfl⟩
abbrev main_call6_c_3 : Ref sig .tc := ⟨.hbm, 184, rfl⟩
abbrev main_call6_v12 : Ref sig .tc := ⟨.hbm, 185, rfl⟩
abbrev main_call6_v13 : Ref sig .tc := ⟨.hbm, 186, rfl⟩
abbrev main_call6_cst : Ref sig .tc := ⟨.hbm, 187, rfl⟩
abbrev main_call6_v14 : Ref sig .tc := ⟨.hbm, 188, rfl⟩
abbrev main_v48 : Ref sig .tc := ⟨.hbm, 189, rfl⟩
abbrev main_v49 : Ref sig .tc := ⟨.hbm, 190, rfl⟩
abbrev main_v50 : Ref sig .tc := ⟨.hbm, 191, rfl⟩
abbrev main_v51 : Ref sig .tc := ⟨.hbm, 192, rfl⟩
abbrev main_v52 : Ref sig .tc := ⟨.hbm, 193, rfl⟩
abbrev main_v53 : Ref sig .tc := ⟨.hbm, 194, rfl⟩
abbrev main_v54 : Ref sig .tc := ⟨.hbm, 195, rfl⟩
abbrev main_cst_10 : Ref sig .tc := ⟨.hbm, 196, rfl⟩
abbrev main_v55 : Ref sig .tc := ⟨.hbm, 197, rfl⟩
abbrev main_v56 : Ref sig .tc := ⟨.hbm, 198, rfl⟩
abbrev main_cst_11 : Ref sig .tc := ⟨.hbm, 199, rfl⟩
abbrev main_v57 : Ref sig .tc := ⟨.hbm, 200, rfl⟩
abbrev main_v58 : Ref sig .tc := ⟨.hbm, 201, rfl⟩
abbrev main_cst_12 : Ref sig .tc := ⟨.hbm, 202, rfl⟩
abbrev main_v59 : Ref sig .tc := ⟨.hbm, 203, rfl⟩
abbrev main_v60 : Ref sig .tc := ⟨.hbm, 204, rfl⟩
abbrev main_c_13 : Ref sig .tc := ⟨.hbm, 205, rfl⟩
abbrev main_call7_call0_cst : Ref sig .tc := ⟨.hbm, 206, rfl⟩
abbrev main_call7_call0_v0 : Ref sig .tc := ⟨.hbm, 207, rfl⟩
abbrev main_call7_call0_v1 : Ref sig .tc := ⟨.hbm, 208, rfl⟩
abbrev main_call7_call0_cst_0 : Ref sig .tc := ⟨.hbm, 209, rfl⟩
abbrev main_call7_call0_v2 : Ref sig .tc := ⟨.hbm, 210, rfl⟩
abbrev main_call7_call0_v3 : Ref sig .tc := ⟨.hbm, 211, rfl⟩
abbrev main_call7_call0_v4 : Ref sig .tc := ⟨.hbm, 212, rfl⟩
abbrev main_call7_call0_v5 : Ref sig .tc := ⟨.hbm, 213, rfl⟩
abbrev main_call7_call0_v6 : Ref sig .tc := ⟨.hbm, 214, rfl⟩
abbrev main_call7_call0_v7 : Ref sig .tc := ⟨.hbm, 215, rfl⟩
abbrev main_call7_call0_cst_1 : Ref sig .tc := ⟨.hbm, 216, rfl⟩
abbrev main_call7_call0_v8 : Ref sig .tc := ⟨.hbm, 217, rfl⟩
abbrev main_call7_call0_cst_2 : Ref sig .tc := ⟨.hbm, 218, rfl⟩
abbrev main_call7_call0_v9 : Ref sig .tc := ⟨.hbm, 219, rfl⟩
abbrev main_call7_call0_v10 : Ref sig .tc := ⟨.hbm, 220, rfl⟩
abbrev main_call7_call0_v11 : Ref sig .tc := ⟨.hbm, 221, rfl⟩
abbrev main_call7_call0_v12 : Ref sig .tc := ⟨.hbm, 222, rfl⟩
abbrev main_call7_call0_cst_3 : Ref sig .tc := ⟨.hbm, 223, rfl⟩
abbrev main_call7_call0_v13 : Ref sig .tc := ⟨.hbm, 224, rfl⟩
abbrev main_call7_call0_cst_4 : Ref sig .tc := ⟨.hbm, 225, rfl⟩
abbrev main_call7_call0_call0_v0 : Ref sig .tc := ⟨.hbm, 226, rfl⟩
abbrev main_call7_call0_call0_v1 : Ref sig .tc := ⟨.hbm, 227, rfl⟩
abbrev main_call7_v0 : Ref sig .tc := ⟨.hbm, 228, rfl⟩
abbrev main_v61 : Ref sig .tc := ⟨.hbm, 229, rfl⟩
abbrev main_v62 : Ref sig .tc := ⟨.hbm, 230, rfl⟩
abbrev main_v63 : Ref sig .tc := ⟨.hbm, 231, rfl⟩
abbrev main_cst_14 : Ref sig .tc := ⟨.hbm, 232, rfl⟩
abbrev main_v64 : Ref sig .tc := ⟨.hbm, 233, rfl⟩
abbrev main_v65 : Ref sig .tc := ⟨.hbm, 234, rfl⟩
abbrev main_v66 : Ref sig .tc := ⟨.hbm, 235, rfl⟩
abbrev main_v67 : Ref sig .tc := ⟨.hbm, 236, rfl⟩
abbrev main_cst_15 : Ref sig .tc := ⟨.hbm, 237, rfl⟩
abbrev main_v68 : Ref sig .tc := ⟨.hbm, 238, rfl⟩
abbrev main_cst_16 : Ref sig .tc := ⟨.hbm, 239, rfl⟩
abbrev main_v69 : Ref sig .tc := ⟨.hbm, 240, rfl⟩
abbrev main_v70 : Ref sig .tc := ⟨.hbm, 241, rfl⟩

abbrev nD : Nat := 1
abbrev τ : Topo := Topo.v7x

variable {F : FTy → Type} [FloatOps F]
-- ==== Proof.Group.lean ====
/- The kernel's body, one group of four trees at a time, in vector operations: the four trees of a group share one
   function, and the body's sixteen stores are that function at four groups of four. -/
module

public import proofs.«01_k».proof.Proof.Gen.KernelIdeal.Frame

@[expose] public section

set_option maxRecDepth 16384

noncomputable section

namespace Cert.Group

open Idealize.ShloMosaic Cert.KernelIdeal Cert.KernelIdeal.Gen

variable {F : FTy → Type} [FloatOps F]

/-- The features of a tree (`t`) gathered by a one-hot matrix (`p`): their product. -/
def gath (t : Vec F S1x128x128 .f32) (p : FVec F S128x128 .f32) : FVec F S128x128 .f32 :=
  matmul dot_S128x128_S128x128_S128x128_1_0_0_1_n_n none (shapeCast S128x128 t shapeCasts_S1x128x128_S128x128) p
    (constant S128x128 .f32 0x00000000#32)

/-- Four matrices side by side. -/
def wide1 (x : Fin 4 → FVec F S128x128 .f32) : FVec F S128x512 .f32 :=
  concatenate S128x512 1 [⟨S128x128, x 0⟩, ⟨S128x128, x 1⟩, ⟨S128x128, x 2⟩, ⟨S128x128, x 3⟩]
    concatenates_S128x128_S128x128_S128x128_S128x128_S128x512_d1

/-- Four matrices of the first layer side by side. -/
def wide2 (x : Fin 4 → FVec F S256x128 .f32) : FVec F S256x512 .f32 :=
  concatenate S256x512 1 [⟨S256x128, x 0⟩, ⟨S256x128, x 1⟩, ⟨S256x128, x 2⟩, ⟨S256x128, x 3⟩]
    concatenates_S256x128_S256x128_S256x128_S256x128_S256x512_d1

/-- A weight block of the first layer times the gathered features. -/
def prod1 (w : Vec F S256x128 .f32) (e : FVec F S128x512 .f32) : FVec F S256x512 .f32 :=
  matmul dot_S256x128_S128x512_S256x512_1_0_0_1_n_n none (shapeCast S256x128 w shapeCasts_S256x128_S256x128) e
    (constant S256x512 .f32 0x00000000#32)

/-- The first layer of the group before normalisation: the bias plus one product for each of the three children. -/
def conv1 (b : Vec F S256x512 .f32) (w : Fin 3 → Vec F S256x128 .f32) (t : Fin 4 → Vec F S1x128x128 .f32)
    (p : Fin 4 → Fin 3 → FVec F S128x128 .f32) : FVec F S256x512 .f32 :=
  addf (addf (addf (shapeCast S256x512 b shapeCasts_S256x512_S256x512)
    (prod1 (w 0) (wide1 fun j => gath (t j) (p j 0))))
    (prod1 (w 1) (wide1 fun j => gath (t j) (p j 1))))
    (prod1 (w 2) (wide1 fun j => gath (t j) (p j 2)))

/-- The four trees' columns lie inside the first layer's matrix. -/
theorem slices1 : ∀ j : Fin 4, S256x512.Slices ![0, 128 * j.val] S256x128 := by decide

/-- The three children's rows and the four trees' columns lie inside the second layer's matrix. -/
theorem slices2 : ∀ (k : Fin 3) (j : Fin 4), S384x512.Slices ![128 * k.val, 128 * j.val] S128x128 := by decide

/-- The three children's rows and the four trees' columns lie inside the third layer's matrix. -/
theorem slices3 : ∀ (k : Fin 3) (j : Fin 4), S192x512.Slices ![64 * k.val, 128 * j.val] S64x128 := by decide

/-- The columns of tree `j` in the first layer's matrix. -/
def cols1 (x : FVec F S256x512 .f32) (j : Fin 4) : FVec F S256x128 .f32 :=
  extractStridedSlice S256x128 ![0, 128 * j.val] x (slices1 j)

/-- The rows of child `k` and the columns of tree `j` in the second layer's matrix. -/
def cell2 (x : FVec F S384x512 .f32) (j : Fin 4) (k : Fin 3) : FVec F S128x128 .f32 :=
  extractStridedSlice S128x128 ![128 * k.val, 128 * j.val] x (slices2 k j)

/-- The rows of child `k` and the columns of tree `j` in the third layer's matrix. -/
def cell3 (x : FVec F S192x512 .f32) (j : Fin 4) (k : Fin 3) : FVec F S64x128 .f32 :=
  extractStridedSlice S64x128 ![64 * k.val, 128 * j.val] x (slices3 k j)

/-- The factor of a normalisation: one over the standard deviation plus `eps`, from the sum (`s`) and the sum of the
    squares (`q`) of `n` elements, where `d` is `n - 1`. -/
def factor (n d : BitVec 32) (s q : F .f32) : F .f32 :=
  Scalar.divf (Scalar.ofBits .f32 0x3F800000#32)
    (Scalar.addf (Scalar.sqrt (Scalar.divf
      (Scalar.maximumf (Scalar.subf q (Scalar.mulf s (Scalar.divf s (Scalar.ofBits .f32 n)))) (Scalar.ofBits .f32 0x00000000#32))
      (Scalar.ofBits .f32 d))) (Scalar.ofBits .f32 0x3727C5AC#32))

/-- A normalisation from the sum and the factor: the elements times the factor, less the mean times the factor. -/
def scaled {s : Shape} (n : BitVec 32) (x : FVec F s .f32) (t r : F .f32) : FVec F s .f32 :=
  subf (mulf x (broadcast s r)) (broadcast s (Scalar.mulf (Scalar.divf t (Scalar.ofBits .f32 n)) r))

/-- The sum of a first layer's elements. -/
def sum1 (x : FVec F S256x128 .f32) : F .f32 :=
  extractAt ![0, 0, 0] (shapeCast S1x1x1 (multiReduction .add [1, 2] S1 (shapeCast S1x256x128 x shapeCasts_S256x128_S1x256x128)
    0x00000000#32 reduces_S1x256x128_S1 (.inl rfl) rfl) shapeCasts_S1_S1x1x1) inpos_S1x1x1_p0_0_0

/-- The sum of a second layer's elements. -/
def sum2 (x : FVec F S128x128 .f32) : F .f32 :=
  extractAt ![0, 0, 0] (shapeCast S1x1x1 (multiReduction .add [1, 2] S1 (shapeCast S1x128x128 x shapeCasts_S128x128_S1x128x128)
    0x00000000#32 reduces_S1x128x128_S1 (.inl rfl) rfl) shapeCasts_S1_S1x1x1) inpos_S1x1x1_p0_0_0

/-- The sum of a third layer's elements. -/
def sum3 (x : FVec F S64x128 .f32) : F .f32 :=
  extractAt ![0, 0, 0] (shapeCast S1x1x1 (multiReduction .add [1, 2] S1 (shapeCast S1x64x128 x shapeCasts_S64x128_S1x64x128)
    0x00000000#32 reduces_S1x64x128_S1 (.inl rfl) rfl) shapeCasts_S1_S1x1x1) inpos_S1x1x1_p0_0_0

/-- The first layer's normalisation. -/
def norm1 (x : FVec F S256x128 .f32) : FVec F S256x128 .f32 :=
  scaled 0x47000000#32 x (sum1 x) (factor 0x47000000#32 0x46FFFE00#32 (sum1 x) (sum1 (mulf x x)))

/-- The second layer's normalisation. -/
def norm2 (x : FVec F S128x128 .f32) : FVec F S128x128 .f32 :=
  scaled 0x46800000#32 x (sum2 x) (factor 0x46800000#32 0x467FFC00#32 (sum2 x) (sum2 (mulf x x)))

/-- The third layer's normalisation. -/
def norm3 (x : FVec F S64x128 .f32) : FVec F S64x128 .f32 :=
  scaled 0x46000000#32 x (sum3 x) (factor 0x46000000#32 0x45FFF800#32 (sum3 x) (sum3 (mulf x x)))

/-- The activation. -/
def act {s : Shape} (x : FVec F s .f32) : FVec F s .f32 :=
  select (cmpf .oge x (broadcast s (Scalar.ofBits .f32 0x00000000#32))) x
    (mulf (broadcast s (Scalar.ofBits .f32 0x3C23D70A#32)) x)

/-- The second layer's weights times the first layer's features. -/
def prod2 (w : Vec F S384x256 .f32) (h : FVec F S256x512 .f32) : FVec F S384x512 .f32 :=
  matmul dot_S384x256_S256x512_S384x512_1_0_0_1_n_n none (shapeCast S384x256 w shapeCasts_S384x256_S384x256) h
    (constant S384x512 .f32 0x00000000#32)

/-- The third layer's weights times the second layer's features. -/
def prod3 (w : Vec F S192x128 .f32) (h : FVec F S128x512 .f32) : FVec F S192x512 .f32 :=
  matmul dot_S192x128_S128x512_S192x512_1_0_0_1_n_n none (shapeCast S192x128 w shapeCasts_S192x128_S192x128) h
    (constant S192x512 .f32 0x00000000#32)

/-- A product gathered by a one-hot matrix, second layer. -/
def pick2 (y p : FVec F S128x128 .f32) : FVec F S128x128 .f32 :=
  matmul dot_S128x128_S128x128_S128x128_1_0_0_1_n_n none y p (constant S128x128 .f32 0x00000000#32)

/-- A product gathered by a one-hot matrix, third layer. -/
def pick3 (y : FVec F S64x128 .f32) (p : FVec F S128x128 .f32) : FVec F S64x128 .f32 :=
  matmul dot_S64x128_S128x128_S64x128_1_0_0_1_n_n none y p (constant S64x128 .f32 0x00000000#32)

/-- The second layer of one tree before normalisation. -/
def conv2 (b : Vec F S128x128 .f32) (y : Fin 3 → FVec F S128x128 .f32) (p : Fin 3 → FVec F S128x128 .f32) :
    FVec F S128x128 .f32 :=
  addf (addf (addf (shapeCast S128x128 b shapeCasts_S128x128_S128x128) (pick2 (y 0) (p 0))) (pick2 (y 1) (p 1))) (pick2 (y 2) (p 2))

/-- The third layer of one tree before normalisation. -/
def conv3 (b : Vec F S64x128 .f32) (y : Fin 3 → FVec F S64x128 .f32) (p : Fin 3 → FVec F S128x128 .f32) :
    FVec F S64x128 .f32 :=
  addf (addf (addf (shapeCast S64x128 b shapeCasts_S64x128_S64x128) (pick3 (y 0) (p 0))) (pick3 (y 1) (p 1))) (pick3 (y 2) (p 2))

/-- The pooling of one tree: the largest feature of each channel, summed. -/
def pooled (x : FVec F S64x128 .f32) : FVec F S1x1 .f32 :=
  shapeCast S1x1 (multiReduction .add [0] S1 (shapeCast S64x1 (multiReduction .maximumf [1] S64 x 0xFF800000#32
    reduces_S64x128_S64 (.inl rfl) rfl) shapeCasts_S64_S64x1) 0x00000000#32 reduces_S64x1_S1 (.inl rfl) rfl) shapeCasts_S1_S1x1

/-- The output of tree `j` of a group, from the biases, the weights, the group's four trees (`t`) and its one-hot
    matrices (`p`). -/
def out (b1 : Vec F S256x512 .f32) (w1 : Fin 3 → Vec F S256x128 .f32) (b2 : Vec F S128x128 .f32) (w2 : Vec F S384x256 .f32)
    (b3 : Vec F S64x128 .f32) (w3 : Vec F S192x128 .f32) (t : Fin 4 → Vec F S1x128x128 .f32)
    (p : Fin 4 → Fin 3 → FVec F S128x128 .f32) (j : Fin 4) : FVec F S1x1 .f32 :=
  have y2 := prod2 w2 (act (wide2 fun i => norm1 (cols1 (conv1 b1 w1 t p) i)))
  have y3 := prod3 w3 (act (wide1 fun i => norm2 (conv2 b2 (cell2 y2 i) (p i))))
  pooled (norm3 (conv3 b3 (cell3 y3 j) (p j)))

/-- A tree of the block lies inside it. -/
theorem inb_tree : ∀ s : Fin 16, ∀ a, (![s.val, 0, 0] : Fin 3 → ℕ) a + S1x128x128.size a ≤ S16x128x128.size a := by decide

/-- A tree's indices for one child lie inside their block. -/
theorem inb_idx : ∀ (s : Fin 16) (k : Fin 3), ∀ a, (![s.val, k.val, 0] : Fin 3 → ℕ) a + S1x1x128.size a ≤ S16x3x128.size a := by decide

/-- The weights of one child lie inside the first layer's. -/
theorem inb_w1 : ∀ k : Fin 3, ∀ a, (![256 * k.val, 0] : Fin 2 → ℕ) a + S256x128.size a ≤ S768x128.size a := by decide

/-- Tree `s` of the block. -/
def treeAt (x0 : Vec F S16x128x128 .f32) (s : Fin 16) : Vec F S1x128x128 .f32 :=
  View.ld x0 (Rect.unit (s := S16x128x128) ![s.val, 0, 0] S1x128x128.size (inb_tree s))

/-- The indices of tree `s` of the block for child `k`. -/
def idxAt (x1 : Vec F S16x3x128 .i32) (s : Fin 16) (k : Fin 3) : Vec F S1x1x128 .i32 :=
  View.ld x1 (Rect.unit (s := S16x3x128) ![s.val, k.val, 0] S1x1x128.size (inb_idx s k))

/-- The first layer's weights for child `k`. -/
def w1At (x2 : Vec F S768x128 .f32) (k : Fin 3) : Vec F S256x128 .f32 :=
  View.ld x2 (Rect.unit (s := S768x128) ![256 * k.val, 0] S256x128.size (inb_w1 k))

/-- Tree `j` of group `g`. -/
def nth (g j : Fin 4) : Fin 16 := ⟨4 * g.val + j.val, by omega⟩

/-- The output of tree `j` of group `g` of the block. -/
def outAt (x0 : Vec F S16x128x128 .f32) (x1 : Vec F S16x3x128 .i32) (x2 : Vec F S768x128 .f32) (x3 : Vec F S384x256 .f32)
    (x4 : Vec F S192x128 .f32) (x5 : Vec F S256x512 .f32) (x6 : Vec F S128x128 .f32) (x7 : Vec F S64x128 .f32)
    (g j : Fin 4) : FVec F S1x1 .f32 :=
  out (View.ld x5 r0_48) (w1At x2) (View.ld x6 r0_57) (View.ld x3 r0_56) (View.ld x7 r0_59) (View.ld x4 r0_58)
    (fun i => treeAt x0 (nth g i)) (fun i k => k0_pay2 (idxAt x1 (nth g i) k)) j

end Cert.Group

end
-- ==== Proof.Net.lean ====
/- The network over the real numbers, one tree at a time: what both programs compute. -/
module

public import Idealize.ShloMosaic.Lib.Pointwise

@[expose] public section

noncomputable section

namespace Cert.Net

open Idealize.ShloMosaic

/-- The number the normalisation adds to the standard deviation: the word `0x3727C5AC`, close to 1e-5. -/
def eps : ℝ := 10995116 / 2 ^ 40

/-- The slope of the activation below zero: the word `0x3C23D70A`, close to 0.01. -/
def slope : ℝ := 10737418 / 2 ^ 30

/-- `eps` is positive. -/
theorem eps_pos : 0 < eps := by unfold eps; norm_num

/-- The word `0x3727C5AC` reads as `eps`. -/
theorem word_eps : Ideal.ofBits .f32 0x3727C5AC#32 = (eps : EReal) := by
  simp [Ideal.ofBits, Ideal.ieee, eps, -EReal.coe_mul]; norm_num

/-- The word `0x3C23D70A` reads as `slope`. -/
theorem word_slope : Ideal.ofBits .f32 0x3C23D70A#32 = (slope : EReal) := by
  simp [Ideal.ofBits, Ideal.ieee, slope, -EReal.coe_mul]; norm_num

/-- The word `0x47000000` reads as 32768, the elements of a tree after the first layer. -/
theorem word_n1 : Ideal.ofBits .f32 0x47000000#32 = ((32768 : ℝ) : EReal) := by
  simp [Ideal.ofBits, Ideal.ieee, -EReal.coe_mul]; norm_num

/-- The word `0x46FFFE00` reads as 32767. -/
theorem word_m1 : Ideal.ofBits .f32 0x46FFFE00#32 = ((32767 : ℝ) : EReal) := by
  simp [Ideal.ofBits, Ideal.ieee, -EReal.coe_mul]; norm_num

/-- The word `0x46800000` reads as 16384, the elements of a tree after the second layer. -/
theorem word_n2 : Ideal.ofBits .f32 0x46800000#32 = ((16384 : ℝ) : EReal) := by
  simp [Ideal.ofBits, Ideal.ieee, -EReal.coe_mul]; norm_num

/-- The word `0x467FFC00` reads as 16383. -/
theorem word_m2 : Ideal.ofBits .f32 0x467FFC00#32 = ((16383 : ℝ) : EReal) := by
  simp [Ideal.ofBits, Ideal.ieee, -EReal.coe_mul]; norm_num

/-- The word `0x46000000` reads as 8192, the elements of a tree after the third layer. -/
theorem word_n3 : Ideal.ofBits .f32 0x46000000#32 = ((8192 : ℝ) : EReal) := by
  simp [Ideal.ofBits, Ideal.ieee, -EReal.coe_mul]; norm_num

/-- The word `0x45FFF800` reads as 8191. -/
theorem word_m3 : Ideal.ofBits .f32 0x45FFF800#32 = ((8191 : ℝ) : EReal) := by
  simp [Ideal.ofBits, Ideal.ieee, -EReal.coe_mul]; norm_num

/-- The word `0xFF800000` reads as minus infinity. -/
theorem word_bot : Ideal.ofBits .f32 0xFF800000#32 = ⊥ := by
  simp [Ideal.ofBits, Ideal.ieee]

/-- The word `0x7F800000` reads as infinity. -/
theorem word_top : Ideal.ofBits .f32 0x7F800000#32 = ⊤ := by
  simp [Ideal.ofBits, Ideal.ieee]

/-- The node whose features the convolution reads at node `n` for the offset `k`: none at node 0. -/
def pick (s : Fin 127 → Fin 3 → Fin 128) (k : Fin 3) (n : Fin 128) : Option (Fin 128) :=
  if h : n.val = 0 then none else some (s ⟨n.val - 1, by omega⟩ k)

/-- The tree convolution: at node `n ≥ 1` the bias plus the weighted features of its three children, and zero at
    node 0. -/
def conv {O C : ℕ} (W : Fin O → Fin C → Fin 3 → ℝ) (b : Fin O → ℝ) (s : Fin 127 → Fin 3 → Fin 128)
    (h : Fin C → Fin 128 → ℝ) (o : Fin O) (n : Fin 128) : ℝ :=
  if hn : n.val = 0 then 0
  else (∑ c, ∑ k, W o c k * h c (s ⟨n.val - 1, by omega⟩ k)) + b o

/-- The sum of all elements of a matrix. -/
def total {R C : ℕ} (x : Fin R → Fin C → ℝ) : ℝ := ∑ r, ∑ c, x r c

/-- The mean of the elements, of which there are `n`. -/
def mean {R C : ℕ} (n : ℝ) (x : Fin R → Fin C → ℝ) : ℝ := total x / n

/-- The variance of the elements with one degree of freedom taken off. -/
def var {R C : ℕ} (n : ℝ) (x : Fin R → Fin C → ℝ) : ℝ :=
  total (fun r c => (x r c - mean n x) * (x r c - mean n x)) / (n - 1)

/-- The layer normalisation of a tree: every element less the mean, over the standard deviation plus `eps`. -/
def tln {R C : ℕ} (n : ℝ) (x : Fin R → Fin C → ℝ) (r : Fin R) (c : Fin C) : ℝ :=
  (x r c - mean n x) / (Real.sqrt (var n x) + eps)

/-- The activation: the number itself from zero on, `slope` times the number below. -/
def leaky (x : ℝ) : ℝ := if 0 ≤ x then x else slope * x

/-- The pooling: the largest feature over the nodes, summed over the channels. -/
def pool {R : ℕ} (x : Fin R → Fin 128 → ℝ) : ℝ := ∑ r, Finset.univ.sup' ⟨0, Finset.mem_univ _⟩ (x r)

/-- The first layer with its activation. -/
def layer1 (W : Fin 256 → Fin 128 → Fin 3 → ℝ) (b : Fin 256 → ℝ) (s : Fin 127 → Fin 3 → Fin 128)
    (h : Fin 128 → Fin 128 → ℝ) : Fin 256 → Fin 128 → ℝ := fun r c => leaky (tln 32768 (conv W b s h) r c)

/-- The second layer with its activation. -/
def layer2 (W : Fin 128 → Fin 256 → Fin 3 → ℝ) (b : Fin 128 → ℝ) (s : Fin 127 → Fin 3 → Fin 128)
    (h : Fin 256 → Fin 128 → ℝ) : Fin 128 → Fin 128 → ℝ := fun r c => leaky (tln 16384 (conv W b s h) r c)

/-- The third layer with the pooling. -/
def layer3 (W : Fin 64 → Fin 128 → Fin 3 → ℝ) (b : Fin 64 → ℝ) (s : Fin 127 → Fin 3 → Fin 128)
    (h : Fin 128 → Fin 128 → ℝ) : ℝ := pool (tln 8192 (conv W b s h))

/-- The mean of squares less the square of the mean is the mean of the squared distances: the sum of the squares less
    the sum times the mean is the sum of the squared distances to the mean. -/
theorem total_sq {R C : ℕ} (n : ℝ) (hn : n = (R : ℝ) * C) (h0 : n ≠ 0) (x : Fin R → Fin C → ℝ) :
    total (fun r c => x r c * x r c) - total x * (total x / n)
      = total (fun r c => (x r c - mean n x) * (x r c - mean n x)) := by
  have e : ∀ r c, (x r c - mean n x) * (x r c - mean n x)
      = x r c * x r c - 2 * mean n x * x r c + mean n x * mean n x := fun r c => by ring
  unfold total
  simp only [e, Finset.sum_add_distrib, Finset.sum_sub_distrib, ← Finset.mul_sum, Finset.sum_const, Finset.card_univ,
    Fintype.card_fin, nsmul_eq_mul]
  have m : (∑ r, ∑ c, x r c) = n * mean n x := by unfold mean total; field_simp
  rw [m]
  field_simp
  rw [hn]; ring

/-- The sum of the squared distances to the mean is not negative. -/
theorem total_sq_nonneg {R C : ℕ} (n : ℝ) (x : Fin R → Fin C → ℝ) :
    0 ≤ total (fun r c => (x r c - mean n x) * (x r c - mean n x)) :=
  Finset.sum_nonneg fun _ _ => Finset.sum_nonneg fun _ _ => mul_self_nonneg _

end Cert.Net

end
-- ==== Proof.Mat.lean ====
/- The steps of a group on matrices of real numbers: each vector operation of the body, applied to matrices whose
   elements are real numbers, gives the matrix of the plain formula. -/
module

public import proofs.«01_k».proof.Proof.Group
public import proofs.«01_k».proof.Proof.Net
public import Idealize.ShloMosaic.Lib.Pointwise

@[expose] public section

set_option maxRecDepth 16384

noncomputable section

namespace Cert.Mat

open Idealize.ShloMosaic Cert.KernelIdeal Cert.KernelIdeal.Gen Cert.Group Cert.Net

/-- A matrix of real numbers as a vector. -/
def mat {R C : ℕ} (f : Fin R → Fin C → ℝ) : FVec Ideal ⟨2, ![R, C]⟩ .f32 := fun i => ((f (i 0) (i 1) : ℝ) : EReal)

/-- A tree's features as a vector with a leading axis of length one. -/
def tree (f : Fin 128 → Fin 128 → ℝ) : FVec Ideal S1x128x128 .f32 := fun i => ((f (i 1) (i 2) : ℝ) : EReal)

/-- A finite sum of real numbers is the same in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The matrix product. -/
def mul {R K C : ℕ} (x : Fin R → Fin K → ℝ) (y : Fin K → Fin C → ℝ) (r : Fin R) (c : Fin C) : ℝ := ∑ k, x r k * y k c

/-- The elementwise sum. -/
def add {R C : ℕ} (x y : Fin R → Fin C → ℝ) (r : Fin R) (c : Fin C) : ℝ := x r c + y r c

/-- Four matrices side by side. -/
def wide {R : ℕ} (x : Fin 4 → Fin R → Fin 128 → ℝ) (r : Fin R) (c : Fin 512) : ℝ :=
  x ⟨c.val / 128, by omega⟩ r ⟨c.val % 128, by omega⟩

/-- Column `128 j + c` of four matrices side by side is column `c` of matrix `j`. -/
theorem wide_at {R : ℕ} (x : Fin 4 → Fin R → Fin 128 → ℝ) (r : Fin R) (j : Fin 4) (c : Fin 128) (h : 128 * j.val + c.val < 512) :
    wide x r ⟨128 * j.val + c.val, h⟩ = x j r c := by
  have e1 : (128 * j.val + c.val) / 128 = j.val := by omega
  have e2 : (128 * j.val + c.val) % 128 = c.val := by omega
  simp only [wide, e1, e2]

/-- The one-hot matrix of a choice of rows: column `n` has a one at row `q n`. -/
def onehot (q : Fin 128 → Option (Fin 128)) (i n : Fin 128) : ℝ := if q n = some i then 1 else 0

/-- A row times a one-hot column is the chosen element, or zero where none is chosen. -/
theorem sum_onehot (q : Fin 128 → Option (Fin 128)) (f : Fin 128 → ℝ) (n : Fin 128) :
    ∑ i, f i * onehot q i n = (q n).elim 0 f := by
  unfold onehot
  cases h : q n with
  | none => simp
  | some a => simp

/-- The index word of a choice: minus one where none is chosen. -/
def word (o : Option (Fin 128)) : BitVec 32 := o.elim 0xFFFFFFFF#32 fun i => BitVec.ofNat 32 i.val

/-- A row number equals the word of a choice exactly where it is the chosen row. -/
theorem word_eq (o : Option (Fin 128)) (i : Fin 128) : (BitVec.ofNat 32 i.val = word o) ↔ o = some i := by
  cases o with
  | none =>
    simp only [word, Option.elim_none, reduceCtorEq, iff_false]
    intro h
    have := congrArg BitVec.toNat h
    simp only [BitVec.toNat_ofNat] at this
    omega
  | some a =>
    simp only [word, Option.elim_some, Option.some.injEq]
    constructor
    · intro h
      have := congrArg BitVec.toNat h
      simp only [BitVec.toNat_ofNat] at this
      apply Fin.ext; omega
    · rintro rfl; rfl

/-- The first layer's gathering product. -/
theorem gath_mat (T P : Fin 128 → Fin 128 → ℝ) : gath (tree T) (mat P) = mat (mul T P) := by
  funext j; unfold gath tree mat mul
  pointwise
  simp only [coe_sum, EReal.coe_mul]

/-- The first layer's weight product. -/
theorem prod1_mat (W : Fin 256 → Fin 128 → ℝ) (E : Fin 128 → Fin 512 → ℝ) : prod1 (mat W) (mat E) = mat (mul W E) := by
  funext j; unfold prod1 mat mul
  pointwise
  simp only [coe_sum, EReal.coe_mul]

/-- The second layer's weight product. -/
theorem prod2_mat (W : Fin 384 → Fin 256 → ℝ) (E : Fin 256 → Fin 512 → ℝ) : prod2 (mat W) (mat E) = mat (mul W E) := by
  funext j; unfold prod2 mat mul
  pointwise
  simp only [coe_sum, EReal.coe_mul]

/-- The third layer's weight product. -/
theorem prod3_mat (W : Fin 192 → Fin 128 → ℝ) (E : Fin 128 → Fin 512 → ℝ) : prod3 (mat W) (mat E) = mat (mul W E) := by
  funext j; unfold prod3 mat mul
  pointwise
  simp only [coe_sum, EReal.coe_mul]

/-- The second layer's gathering product. -/
theorem pick2_mat (W E : Fin 128 → Fin 128 → ℝ) : pick2 (mat W) (mat E) = mat (mul W E) := by
  funext j; unfold pick2 mat mul
  pointwise
  simp only [coe_sum, EReal.coe_mul]

/-- The third layer's gathering product. -/
theorem pick3_mat (W : Fin 64 → Fin 128 → ℝ) (E : Fin 128 → Fin 128 → ℝ) : pick3 (mat W) (mat E) = mat (mul W E) := by
  funext j; unfold pick3 mat mul
  pointwise
  simp only [coe_sum, EReal.coe_mul]

/-- The sum of two matrices. -/
theorem addf_mat {R C : ℕ} (x y : Fin R → Fin C → ℝ) : addf (mat x) (mat y) = mat (add x y) := by
  funext j; unfold mat add
  pointwise
  simp only [EReal.coe_add]

/-- Four matrices side by side, 128 rows. -/
theorem wide1_mat (x : Fin 4 → Fin 128 → Fin 128 → ℝ) : wide1 (fun j => mat (x j)) = mat (wide x) := by
  funext j; unfold wide1 mat wide
  pointwise
  have lt : (j 1).val < 512 := (j 1).isLt
  have key : ∀ (a : Fin 4) (b : Fin 128), 128 * a.val + b.val = (j 1).val →
      x ⟨(j 1).val / 128, by omega⟩ (j 0) ⟨(j 1).val % 128, by omega⟩ = x a (j 0) b := by
    intro a b h
    have e1 : (j 1).val / 128 = a.val := by omega
    have e2 : (j 1).val % 128 = b.val := by omega
    simp only [e1, e2]
  by_cases h0 : (j 1).val < 128
  · exact (dif_pos h0).trans (congrArg ((↑) : ℝ → EReal) (key 0 ⟨(j 1).val, h0⟩ (by show 128 * 0 + (j 1).val = _; omega)).symm)
  refine (dif_neg h0).trans ?_
  by_cases h1 : (j 1).val - 128 < 128
  · exact (dif_pos h1).trans (congrArg ((↑) : ℝ → EReal)
      (key 1 ⟨(j 1).val - 128, h1⟩ (by show 128 * 1 + ((j 1).val - 128) = _; omega)).symm)
  refine (dif_neg h1).trans ?_
  by_cases h2 : (j 1).val - 128 - 128 < 128
  · exact (dif_pos h2).trans (congrArg ((↑) : ℝ → EReal)
      (key 2 ⟨(j 1).val - 128 - 128, h2⟩ (by show 128 * 2 + ((j 1).val - 128 - 128) = _; omega)).symm)
  refine (dif_neg h2).trans ?_
  exact congrArg ((↑) : ℝ → EReal)
    (key 3 ⟨(j 1).val - 128 - 128 - 128, by omega⟩ (by show 128 * 3 + ((j 1).val - 128 - 128 - 128) = _; omega)).symm

/-- Four matrices side by side, 256 rows. -/
theorem wide2_mat (x : Fin 4 → Fin 256 → Fin 128 → ℝ) : wide2 (fun j => mat (x j)) = mat (wide x) := by
  funext j; unfold wide2 mat wide
  pointwise
  have lt : (j 1).val < 512 := (j 1).isLt
  have key : ∀ (a : Fin 4) (b : Fin 128), 128 * a.val + b.val = (j 1).val →
      x ⟨(j 1).val / 128, by omega⟩ (j 0) ⟨(j 1).val % 128, by omega⟩ = x a (j 0) b := by
    intro a b h
    have e1 : (j 1).val / 128 = a.val := by omega
    have e2 : (j 1).val % 128 = b.val := by omega
    simp only [e1, e2]
  by_cases h0 : (j 1).val < 128
  · exact (dif_pos h0).trans (congrArg ((↑) : ℝ → EReal) (key 0 ⟨(j 1).val, h0⟩ (by show 128 * 0 + (j 1).val = _; omega)).symm)
  refine (dif_neg h0).trans ?_
  by_cases h1 : (j 1).val - 128 < 128
  · exact (dif_pos h1).trans (congrArg ((↑) : ℝ → EReal)
      (key 1 ⟨(j 1).val - 128, h1⟩ (by show 128 * 1 + ((j 1).val - 128) = _; omega)).symm)
  refine (dif_neg h1).trans ?_
  by_cases h2 : (j 1).val - 128 - 128 < 128
  · exact (dif_pos h2).trans (congrArg ((↑) : ℝ → EReal)
      (key 2 ⟨(j 1).val - 128 - 128, h2⟩ (by show 128 * 2 + ((j 1).val - 128 - 128) = _; omega)).symm)
  refine (dif_neg h2).trans ?_
  exact congrArg ((↑) : ℝ → EReal)
    (key 3 ⟨(j 1).val - 128 - 128 - 128, by omega⟩ (by show 128 * 3 + ((j 1).val - 128 - 128 - 128) = _; omega)).symm

/-- The columns of one tree, first layer. -/
theorem cols1_mat (x : Fin 256 → Fin 512 → ℝ) (j : Fin 4) :
    cols1 (mat x) j = mat fun r c => x r ⟨128 * j.val + c.val, by omega⟩ := by
  funext i; unfold cols1 mat
  pointwise

/-- The rows of one child and the columns of one tree, second layer. -/
theorem cell2_mat (x : Fin 384 → Fin 512 → ℝ) (j : Fin 4) (k : Fin 3) :
    cell2 (mat x) j k = mat fun r c => x ⟨128 * k.val + r.val, by omega⟩ ⟨128 * j.val + c.val, by omega⟩ := by
  funext i; unfold cell2 mat
  pointwise

/-- The rows of one child and the columns of one tree, third layer. -/
theorem cell3_mat (x : Fin 192 → Fin 512 → ℝ) (j : Fin 4) (k : Fin 3) :
    cell3 (mat x) j k = mat fun r c => x ⟨64 * k.val + r.val, by omega⟩ ⟨128 * j.val + c.val, by omega⟩ := by
  funext i; unfold cell3 mat
  pointwise

/-- The sum of the first layer's elements. -/
theorem sum1_mat (x : Fin 256 → Fin 128 → ℝ) : sum1 (mat x) = ((total x : ℝ) : EReal) := by
  unfold sum1 mat total
  pointwise
  simp only [coe_sum]

/-- The sum of the second layer's elements. -/
theorem sum2_mat (x : Fin 128 → Fin 128 → ℝ) : sum2 (mat x) = ((total x : ℝ) : EReal) := by
  unfold sum2 mat total
  pointwise
  simp only [coe_sum]

/-- The sum of the third layer's elements. -/
theorem sum3_mat (x : Fin 64 → Fin 128 → ℝ) : sum3 (mat x) = ((total x : ℝ) : EReal) := by
  unfold sum3 mat total
  pointwise
  simp only [coe_sum]

/-- The elementwise square. -/
theorem sq_mat {R C : ℕ} (x : Fin R → Fin C → ℝ) : mulf (mat x) (mat x) = mat fun r c => x r c * x r c := by
  funext j; unfold mat
  pointwise
  simp only [EReal.coe_mul]

/-- The factor of a normalisation of real numbers. -/
theorem factor_coe (n d : BitVec 32) (N : ℝ) {R C : ℕ} (x : Fin R → Fin C → ℝ) (hn : Ideal.ofBits .f32 n = (N : EReal))
    (hd : Ideal.ofBits .f32 d = ((N - 1 : ℝ) : EReal)) (hN : N = (R : ℝ) * C) (h1 : 1 < N) :
    factor (F := Ideal) n d ((total x : ℝ) : EReal) ((total fun r c => x r c * x r c : ℝ) : EReal)
      = ((1 / (Real.sqrt (var N x) + eps) : ℝ) : EReal) := by
  have hv : 0 ≤ var N x := div_nonneg (total_sq_nonneg N x) (by linarith)
  have hp : Real.sqrt (var N x) + eps ≠ 0 := (add_pos_of_nonneg_of_pos (Real.sqrt_nonneg _) eps_pos).ne'
  have h0 : N ≠ 0 := by linarith
  have h0' : N - 1 ≠ 0 := by linarith
  unfold factor
  pointwise
  rw [hn, hd, word_eps, Ideal.div_coe h0, ← EReal.coe_mul, ← EReal.coe_mul, ← EReal.coe_sub, mul_one_div,
    total_sq N hN h0, max_eq_left (by exact_mod_cast total_sq_nonneg N x), Ideal.div_coe h0', ← EReal.coe_mul, mul_one_div]
  change Ideal.div _ (Ideal.sqrt ((var N x : ℝ) : EReal) + _) = _
  rw [Ideal.sqrt_coe, if_neg (not_lt.2 hv), ← EReal.coe_add, Ideal.div_coe hp]
  simp

/-- A scaling of real numbers. -/
theorem scaled_mat {R C : ℕ} (n : BitVec 32) (N t r : ℝ) (x : Fin R → Fin C → ℝ) (hn : Ideal.ofBits .f32 n = (N : EReal))
    (h0 : N ≠ 0) : scaled n (mat x) ((t : ℝ) : EReal) ((r : ℝ) : EReal) = mat fun i c => x i c * r - t / N * r := by
  funext j; unfold scaled mat
  pointwise
  rw [hn, Ideal.div_coe h0]
  simp only [EReal.coe_sub, EReal.coe_mul, div_eq_mul_one_div t N]

/-- The first layer's normalisation. -/
theorem norm1_mat (x : Fin 256 → Fin 128 → ℝ) : norm1 (mat x) = mat (tln 32768 x) := by
  unfold norm1
  rw [sq_mat, sum1_mat, sum1_mat, factor_coe _ _ 32768 x word_n1 (by rw [word_m1]; norm_num) (by norm_num) (by norm_num),
    scaled_mat _ 32768 _ _ _ word_n1 (by norm_num)]
  congr 1; funext r c; unfold tln mean; ring

/-- The second layer's normalisation. -/
theorem norm2_mat (x : Fin 128 → Fin 128 → ℝ) : norm2 (mat x) = mat (tln 16384 x) := by
  unfold norm2
  rw [sq_mat, sum2_mat, sum2_mat, factor_coe _ _ 16384 x word_n2 (by rw [word_m2]; norm_num) (by norm_num) (by norm_num),
    scaled_mat _ 16384 _ _ _ word_n2 (by norm_num)]
  congr 1; funext r c; unfold tln mean; ring

/-- The third layer's normalisation. -/
theorem norm3_mat (x : Fin 64 → Fin 128 → ℝ) : norm3 (mat x) = mat (tln 8192 x) := by
  unfold norm3
  rw [sq_mat, sum3_mat, sum3_mat, factor_coe _ _ 8192 x word_n3 (by rw [word_m3]; norm_num) (by norm_num) (by norm_num),
    scaled_mat _ 8192 _ _ _ word_n3 (by norm_num)]
  congr 1; funext r c; unfold tln mean; ring

/-- The activation. -/
theorem act_mat {R C : ℕ} (x : Fin R → Fin C → ℝ) : act (mat x) = mat fun r c => leaky (x r c) := by
  funext j; unfold act mat leaky
  pointwise
  rw [word_slope]
  simp only [EReal.coe_nonneg, ← EReal.coe_mul]
  split_ifs <;> rfl

/-- The largest of finitely many real numbers, folded from minus infinity. -/
theorem fold_max {n : ℕ} (f : Fin (n + 1) → ℝ) : Finset.univ.fold max (⊥ : EReal) (fun i => ((f i : ℝ) : EReal))
    = ((Finset.univ.sup' ⟨0, Finset.mem_univ _⟩ f : ℝ) : EReal) := by
  apply le_antisymm
  · rw [Finset.fold_max_le]
    exact ⟨bot_le, fun i _ => EReal.coe_le_coe_iff.2 (Finset.le_sup' f (Finset.mem_univ i))⟩
  · obtain ⟨i, hi, e⟩ := Finset.exists_mem_eq_sup' (s := Finset.univ) ⟨0, Finset.mem_univ _⟩ f
    rw [e]
    exact (Finset.le_fold_max _).2 (.inr ⟨i, hi, le_rfl⟩)

/-- The pooling. -/
theorem pooled_mat (x : Fin 64 → Fin 128 → ℝ) : pooled (mat x) = fun _ => ((Net.pool x : ℝ) : EReal) := by
  funext j; unfold pooled mat Net.pool
  pointwise
  rw [word_bot]
  simp only [fold_max, coe_sum]

/-- A truth value as a number. -/
theorem sitofp_bit (p : Bool) : FloatOps.sitofp (F := Ideal) .f32 (BitVec.setWidth 32 (BitVec.ofBool p)) = if p then 1 else 0 := by
  cases p <;> simp [FloatOps.sitofp]

/-- Whether a row number is the word of a choice, as a number. -/
theorem bit_onehot (o : Option (Fin 128)) (i : Fin 128) :
    (if (BitVec.ofNat 32 i.val == word o) = true then (1 : EReal) else 0) = ((if o = some i then 1 else 0 : ℝ) : EReal) := by
  by_cases e : o = some i
  · rw [if_pos e, if_pos (by rw [beq_iff_eq]; exact (word_eq _ _).2 e)]; rfl
  · rw [if_neg e, if_neg (by rw [beq_iff_eq]; exact fun h => e ((word_eq _ _).1 h))]; rfl

/-- A tree's index words for one child give the one-hot matrix of the choice. -/
theorem onehot_mat (v : Vec Ideal S1x1x128 .i32) (q : Fin 128 → Option (Fin 128)) (h : ∀ i : S1x1x128.Idx, v i = word (q (i 2))) :
    k0_pay2 (F := Ideal) v = mat (onehot q) := by
  funext j; unfold k0_pay2 mat onehot
  pointwise
  rw [h]
  change FloatOps.sitofp .f32 (BitVec.setWidth 32 (BitVec.ofBool (BitVec.ofNat 32 (j 0).val == word (q (j 1))))) = _
  rw [sitofp_bit]
  exact bit_onehot _ _

/-- The convolution as the body adds it up: the masked bias, then one picked weighted sum per child. -/
theorem conv_eq {O C : ℕ} (W : Fin O → Fin C → Fin 3 → ℝ) (b : Fin O → ℝ) (s : Fin 127 → Fin 3 → Fin 128)
    (h : Fin C → Fin 128 → ℝ) (o : Fin O) (n : Fin 128) :
    conv W b s h o n = (if n.val = 0 then 0 else b o) + (pick s 0 n).elim 0 (fun i => ∑ c, W o c 0 * h c i)
      + (pick s 1 n).elim 0 (fun i => ∑ c, W o c 1 * h c i) + (pick s 2 n).elim 0 (fun i => ∑ c, W o c 2 * h c i) := by
  unfold conv pick
  by_cases hn : n.val = 0
  · simp [hn]
  · simp only [hn, ↓reduceDIte, ↓reduceIte, Option.elim_some, Fin.sum_univ_three, Finset.sum_add_distrib]
    ring

end Cert.Mat

end
-- ==== Proof.GroupVal.lean ====
/- A group of four trees on real numbers: its outputs are the network's plain formula at each of its trees. -/
module

public import proofs.«01_k».proof.Proof.Mat

@[expose] public section

set_option maxRecDepth 16384

noncomputable section

namespace Cert.Mat

open Idealize.ShloMosaic Cert.KernelIdeal Cert.KernelIdeal.Gen Cert.Group Cert.Net

/-- The bias of one layer, zero at node 0. -/
def bias {O : ℕ} (b : Fin O → ℝ) (o : Fin O) (n : Fin 128) : ℝ := if n.val = 0 then 0 else b o

/-- The bias of the first layer at the four trees of a group. -/
def bias4 (b : Fin 256 → ℝ) (o : Fin 256) (n : Fin 512) : ℝ := if n.val % 128 = 0 then 0 else b o

/-- The weights of one layer, the three children's blocks of `O` rows below one another. -/
def stack {O C R : ℕ} (hO : 0 < O) (hR : R = 3 * O) (W : Fin O → Fin C → Fin 3 → ℝ) (r : Fin R) (c : Fin C) : ℝ :=
  W ⟨r.val % O, Nat.mod_lt _ hO⟩ c ⟨r.val / O, (Nat.div_lt_iff_lt_mul hO).2 (hR ▸ r.isLt)⟩

/-- Row `O k + o` of the weights below one another is row `o` of child `k`. -/
theorem stack_at {O C R : ℕ} (hO : 0 < O) (hR : R = 3 * O) (W : Fin O → Fin C → Fin 3 → ℝ) (k : Fin 3) (o : Fin O) (c : Fin C)
    (h : O * k.val + o.val < R) : stack hO hR W ⟨O * k.val + o.val, h⟩ c = W o c k := by
  have e1 : (O * k.val + o.val) % O = o.val := by rw [Nat.mul_add_mod]; exact Nat.mod_eq_of_lt o.isLt
  have e2 : (O * k.val + o.val) / O = k.val := by
    rw [Nat.mul_add_div hO, Nat.div_eq_of_lt o.isLt, Nat.add_zero]
  simp only [stack, e1, e2]

/-- A weighted sum of chosen elements is the chosen weighted sum. -/
theorem sum_elim {C : ℕ} (o : Option (Fin 128)) (w : Fin C → ℝ) (f : Fin C → Fin 128 → ℝ) :
    ∑ c, w c * o.elim 0 (f c) = o.elim 0 fun i => ∑ c, w c * f c i := by
  cases o <;> simp

/-- The first layer before normalisation: the columns of each tree are its convolution. -/
theorem conv1_mat (W : Fin 256 → Fin 128 → Fin 3 → ℝ) (b : Fin 256 → ℝ) (s : Fin 4 → Fin 127 → Fin 3 → Fin 128)
    (T : Fin 4 → Fin 128 → Fin 128 → ℝ) (j : Fin 4) :
    cols1 (conv1 (F := Ideal) (mat (bias4 b)) (fun k => mat fun o c => W o c k) (fun i => tree (T i))
      (fun i k => mat (onehot (pick (s i) k)))) j = mat (conv W b (s j) (T j)) := by
  have hb : shapeCast S256x512 (mat (bias4 b)) shapeCasts_S256x512_S256x512 = mat (bias4 b) := by
    funext i; unfold mat; pointwise
  unfold conv1
  simp only [gath_mat, wide1_mat, prod1_mat, hb, addf_mat, cols1_mat]
  congr 1; funext r c
  have hm : (128 * j.val + c.val) % 128 = c.val := by omega
  simp only [add, mul, wide_at, sum_onehot, sum_elim, bias4, hm]
  exact (conv_eq W b (s j) (T j) r c).symm

/-- The second layer of one tree before normalisation is its convolution. -/
theorem conv2_mat (W : Fin 128 → Fin 256 → Fin 3 → ℝ) (b : Fin 128 → ℝ) (s : Fin 4 → Fin 127 → Fin 3 → Fin 128)
    (H : Fin 4 → Fin 256 → Fin 128 → ℝ) (j : Fin 4) :
    conv2 (F := Ideal) (mat (bias b))
      (cell2 (prod2 (mat (stack (by norm_num) (by norm_num) W)) (mat (wide H))) j) (fun k => mat (onehot (pick (s j) k)))
      = mat (conv W b (s j) (H j)) := by
  have hb : shapeCast S128x128 (mat (bias b)) shapeCasts_S128x128_S128x128 = mat (bias b) := by
    funext i; unfold mat; pointwise
  unfold conv2
  simp only [prod2_mat, cell2_mat, pick2_mat, hb, addf_mat]
  congr 1; funext r c
  simp only [add, mul, sum_onehot, wide_at, stack_at, bias]
  exact (conv_eq W b (s j) (H j) r c).symm

/-- The third layer of one tree before normalisation is its convolution. -/
theorem conv3_mat (W : Fin 64 → Fin 128 → Fin 3 → ℝ) (b : Fin 64 → ℝ) (s : Fin 4 → Fin 127 → Fin 3 → Fin 128)
    (H : Fin 4 → Fin 128 → Fin 128 → ℝ) (j : Fin 4) :
    conv3 (F := Ideal) (mat (bias b))
      (cell3 (prod3 (mat (stack (by norm_num) (by norm_num) W)) (mat (wide H))) j) (fun k => mat (onehot (pick (s j) k)))
      = mat (conv W b (s j) (H j)) := by
  have hb : shapeCast S64x128 (mat (bias b)) shapeCasts_S64x128_S64x128 = mat (bias b) := by
    funext i; unfold mat; pointwise
  unfold conv3
  simp only [prod3_mat, cell3_mat, pick3_mat, hb, addf_mat]
  congr 1; funext r c
  simp only [add, mul, sum_onehot, wide_at, stack_at, bias]
  exact (conv_eq W b (s j) (H j) r c).symm

/-- The network at one tree, from the three layers' weights and biases, the tree's children and its features. -/
def net (W1 : Fin 256 → Fin 128 → Fin 3 → ℝ) (b1 : Fin 256 → ℝ) (W2 : Fin 128 → Fin 256 → Fin 3 → ℝ) (b2 : Fin 128 → ℝ)
    (W3 : Fin 64 → Fin 128 → Fin 3 → ℝ) (b3 : Fin 64 → ℝ) (s : Fin 127 → Fin 3 → Fin 128) (T : Fin 128 → Fin 128 → ℝ) : ℝ :=
  layer3 W3 b3 s (layer2 W2 b2 s (layer1 W1 b1 s T))

/-- The outputs of a group are the network at each of its trees. -/
theorem out_mat (W1 : Fin 256 → Fin 128 → Fin 3 → ℝ) (b1 : Fin 256 → ℝ) (W2 : Fin 128 → Fin 256 → Fin 3 → ℝ) (b2 : Fin 128 → ℝ)
    (W3 : Fin 64 → Fin 128 → Fin 3 → ℝ) (b3 : Fin 64 → ℝ) (s : Fin 4 → Fin 127 → Fin 3 → Fin 128)
    (T : Fin 4 → Fin 128 → Fin 128 → ℝ) (j : Fin 4) :
    out (F := Ideal) (mat (bias4 b1)) (fun k => mat fun o c => W1 o c k) (mat (bias b2))
      (mat (stack (by norm_num) (by norm_num) W2)) (mat (bias b3)) (mat (stack (by norm_num) (by norm_num) W3))
      (fun i => tree (T i)) (fun i k => mat (onehot (pick (s i) k))) j
      = fun _ => ((net W1 b1 W2 b2 W3 b3 (s j) (T j) : ℝ) : EReal) := by
  unfold out
  dsimp only
  simp only [conv1_mat, norm1_mat, wide2_mat, act_mat]
  change pooled (norm3 (conv3 _ (cell3 (prod3 _ (act (wide1 fun i => norm2 (conv2 _ (cell2 (prod2 _
    (mat (wide fun i => layer1 W1 b1 (s i) (T i)))) i) _)))) j) _)) = _
  simp only [conv2_mat, norm2_mat, wide1_mat, act_mat]
  change pooled (norm3 (conv3 _ (cell3 (prod3 _
    (mat (wide fun i => layer2 W2 b2 (s i) (layer1 W1 b1 (s i) (T i))))) j) _)) = _
  rw [conv3_mat, norm3_mat, pooled_mat]
  rfl

end Cert.Mat

end
-- ==== Proof.Args.lean ====
/- The arguments of the network as vectors whose elements are real numbers or node numbers. -/
module

public import proofs.«01_k».proof.Proof.Net

@[expose] public section

noncomputable section

namespace Cert.Net

open Idealize.ShloMosaic

/-- A three-axis argument of real numbers. -/
def cube {A B C : ℕ} (f : Fin A → Fin B → Fin C → ℝ) : FVec Ideal ⟨3, ![A, B, C]⟩ .f32 := fun i => ((f (i 0) (i 1) (i 2) : ℝ) : EReal)

/-- A one-axis argument of real numbers. -/
def line {A : ℕ} (f : Fin A → ℝ) : FVec Ideal ⟨1, ![A]⟩ .f32 := fun i => ((f (i 0) : ℝ) : EReal)

/-- The child that entry `e` of a tree's index list names. -/
def entry (s : Fin 127 → Fin 3 → Fin 128) (e : Fin 381) : Fin 128 := s ⟨e.val / 3, by omega⟩ ⟨e.val % 3, by omega⟩

/-- Entry `3 n + k` is child `k` of node `n`. -/
theorem entry_at (s : Fin 127 → Fin 3 → Fin 128) (n : Fin 127) (k : Fin 3) (h : n.val * 3 + k.val < 381) :
    entry s ⟨n.val * 3 + k.val, h⟩ = s n k := by
  have e1 : (n.val * 3 + k.val) / 3 = n.val := by omega
  have e2 : (n.val * 3 + k.val) % 3 = k.val := by omega
  simp only [entry, e1, e2]

/-- The index argument: the words of the children of every tree. -/
def idxs (s : Fin 1024 → Fin 127 → Fin 3 → Fin 128) : IVec ⟨3, ![1024, 381, 1]⟩ 32 := fun i =>
  BitVec.ofNat 32 (entry (s (i 0)) (i 1)).val

end Cert.Net

end
-- ==== Proof.Entry.lean ====
/- What the kernel's windows hold when it starts: the host's arrangement of the arguments. -/
module

public import proofs.«01_k».proof.Proof.GroupVal
public import proofs.«01_k».proof.Proof.Args
public import Idealize.ShloMosaic.Lib.Claim
public import Idealize.ShloMosaic.Lib.Pipeline.ValueKit

@[expose] public section

set_option maxRecDepth 16384

noncomputable section

namespace Cert.Entry

open Idealize.ShloMosaic Cert.KernelIdeal Cert.KernelIdeal.Gen Cert.Group Cert.Net Cert.Mat

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- A word's comparison with zero, as a mask on a real number. -/
theorem mask_coe (n : ℕ) (hn : n < 512) (b : ℝ) : (b : EReal) * FloatOps.uitofp (F := Ideal) .f32
    (IntOp.cmpi .sgt (BitVec.ofNat 32 n) 0#32) = ((if n = 0 then 0 else b : ℝ) : EReal) := by
  have e : IntOp.cmpi .sgt (BitVec.ofNat 32 n) 0#32 = BitVec.ofBool (decide (n ≠ 0)) := by
    have hi : (BitVec.ofNat 32 n).toInt = n := by
      rw [BitVec.toInt_eq_toNat_of_lt (by rw [BitVec.toNat_ofNat]; omega), BitVec.toNat_ofNat]
      omega
    have h0 : (0#32 : BitVec 32).toInt = 0 := by decide
    show BitVec.ofBool (BitVec.slt 0#32 (BitVec.ofNat 32 n)) = _
    rw [BitVec.slt_eq_decide, hi, h0]
    congr 1
    exact decide_eq_decide.2 (by omega)
  rw [e]
  by_cases h : n = 0
  · simp [h, FloatOps.uitofp]
  · simp [h, FloatOps.uitofp]

/-- The word of the choice at a node, by whether the node is node 0. -/
theorem word_pick (s : Fin 127 → Fin 3 → Fin 128) (k : Fin 3) (n : Fin 128) :
    (if h : n.val < 1 then 4294967295#32 else BitVec.ofNat 32 (entry s ⟨(n.val - 1) * 3 + k.val, by omega⟩).val)
      = word (pick s k n) := by
  unfold pick
  by_cases h : n.val = 0
  · rw [dif_pos (by omega), dif_pos h]; rfl
  · rw [dif_neg (by omega), dif_neg h, entry_at s ⟨n.val - 1, by omega⟩ k]; rfl

/-- The first layer's weights, the three children's blocks below one another. -/
theorem v6 (W : Fin 256 → Fin 128 → Fin 3 → ℝ) (h : m ((c : Thread nD τ).loc main_arg2) = cube W) :
    V m c main_v6 = (mat (stack (by norm_num) (by norm_num) W) : FVec Ideal S768x128 .f32) := by
  entry_read
  rw [h]
  funext i; unfold mat stack cube
  pointwise

/-- The second layer's weights, the three children's blocks below one another. -/
theorem v8 (W : Fin 128 → Fin 256 → Fin 3 → ℝ) (h : m ((c : Thread nD τ).loc main_arg4) = cube W) :
    V m c main_v8 = (mat (stack (by norm_num) (by norm_num) W) : FVec Ideal S384x256 .f32) := by
  entry_read
  rw [h]
  funext i; unfold mat stack cube
  pointwise

/-- The third layer's weights, the three children's blocks below one another. -/
theorem v10 (W : Fin 64 → Fin 128 → Fin 3 → ℝ) (h : m ((c : Thread nD τ).loc main_arg6) = cube W) :
    V m c main_v10 = (mat (stack (by norm_num) (by norm_num) W) : FVec Ideal S192x128 .f32) := by
  entry_read
  rw [h]
  funext i; unfold mat stack cube
  pointwise

/-- The first layer's bias at the four trees of a group. -/
theorem v22 (b : Fin 256 → ℝ) (h : m ((c : Thread nD τ).loc main_arg3) = line b) :
    V m c main_v22 = (mat (bias4 b) : FVec Ideal S256x512 .f32) := by
  entry_read
  rw [h]
  funext i; unfold mat bias4 line
  pointwise
  exact mask_coe _ (by omega) _

/-- The second layer's bias. -/
theorem v26 (b : Fin 128 → ℝ) (h : m ((c : Thread nD τ).loc main_arg5) = line b) :
    V m c main_v26 = (mat (bias b) : FVec Ideal S128x128 .f32) := by
  entry_read
  rw [h]
  funext i; unfold mat bias line
  pointwise
  exact mask_coe _ (lt_trans (show (i 1).val < 128 from (i 1).isLt) (by norm_num)) _

/-- The third layer's bias. -/
theorem v30 (b : Fin 64 → ℝ) (h : m ((c : Thread nD τ).loc main_arg7) = line b) :
    V m c main_v30 = (mat (bias b) : FVec Ideal S64x128 .f32) := by
  entry_read
  rw [h]
  funext i; unfold mat bias line
  pointwise
  exact mask_coe _ (lt_trans (show (i 1).val < 128 from (i 1).isLt) (by norm_num)) _

/-- The index words, minus one at node 0. -/
theorem v4 (s : Fin 1024 → Fin 127 → Fin 3 → Fin 128) (h : m ((c : Thread nD τ).loc main_arg1) = idxs s) (i : S1024x3x128.Idx) :
    V m c main_v4 i = word (pick (s (i 0)) (i 1) (i 2)) := by
  entry_read
  rw [h]
  unfold idxs
  pointwise
  exact word_pick _ _ _

/-- The trees' features. -/
theorem a0 (T : Fin 1024 → Fin 128 → Fin 128 → ℝ) (h : m ((c : Thread nD τ).loc main_arg0) = cube T) :
    V m c main_arg0 = (cube T : FVec Ideal S1024x128x128 .f32) := by
  entry_read
  exact h

end Cert.Entry

end
-- ==== Proof.Stores.lean ====
/- The kernel's sixteen stores are one function at four groups of four trees. -/
module

public import proofs.«01_k».proof.Proof.Group

@[expose] public section

set_option maxRecDepth 16384

noncomputable section

namespace Cert.Group

open Idealize.ShloMosaic Cert.KernelIdeal Cert.KernelIdeal.Gen

variable {F : FTy → Type} [FloatOps F]

section
variable (x0 : Vec F S16x128x128 .f32) (x1 : Vec F S16x3x128 .i32) (x2 : Vec F S768x128 .f32) (x3 : Vec F S384x256 .f32)
    (x4 : Vec F S192x128 .f32) (x5 : Vec F S256x512 .f32) (x6 : Vec F S128x128 .f32) (x7 : Vec F S64x128 .f32)

set_option maxHeartbeats 4000000 in
/-- The body's sixteen stores are `outAt` at the four groups of four trees. -/
theorem out0_8_eq : out0_8 x0 x1 x2 x3 x4 x5 x6 x7 = View.canon
    [⟨r0_87, outAt x0 x1 x2 x3 x4 x5 x6 x7 3 3⟩,
      ⟨r0_86, outAt x0 x1 x2 x3 x4 x5 x6 x7 3 2⟩,
      ⟨r0_85, outAt x0 x1 x2 x3 x4 x5 x6 x7 3 1⟩,
      ⟨r0_84, outAt x0 x1 x2 x3 x4 x5 x6 x7 3 0⟩,
      ⟨r0_79, outAt x0 x1 x2 x3 x4 x5 x6 x7 2 3⟩,
      ⟨r0_78, outAt x0 x1 x2 x3 x4 x5 x6 x7 2 2⟩,
      ⟨r0_77, outAt x0 x1 x2 x3 x4 x5 x6 x7 2 1⟩,
      ⟨r0_76, outAt x0 x1 x2 x3 x4 x5 x6 x7 2 0⟩,
      ⟨r0_71, outAt x0 x1 x2 x3 x4 x5 x6 x7 1 3⟩,
      ⟨r0_70, outAt x0 x1 x2 x3 x4 x5 x6 x7 1 2⟩,
      ⟨r0_69, outAt x0 x1 x2 x3 x4 x5 x6 x7 1 1⟩,
      ⟨r0_68, outAt x0 x1 x2 x3 x4 x5 x6 x7 1 0⟩,
      ⟨r0_63, outAt x0 x1 x2 x3 x4 x5 x6 x7 0 3⟩,
      ⟨r0_62, outAt x0 x1 x2 x3 x4 x5 x6 x7 0 2⟩,
      ⟨r0_61, outAt x0 x1 x2 x3 x4 x5 x6 x7 0 1⟩,
      ⟨r0_60, outAt x0 x1 x2 x3 x4 x5 x6 x7 0 0⟩] := rfl
end

end Cert.Group

end
-- ==== Proof.KernelVal.lean ====
/- The kernel's result on real arguments: every entry is the network at its tree. -/
module

public import proofs.«01_k».proof.Proof.Entry
public import proofs.«01_k».proof.Proof.Stores
public import proofs.«01_k».proof.Proof.Gen.KernelIdeal.Value

@[expose] public section

set_option maxRecDepth 16384

noncomputable section

namespace Cert.Entry

open Idealize.ShloMosaic Cert.KernelIdeal Cert.KernelIdeal.Gen Cert.Group Cert.Net Cert.Mat
open Idealize.ShloMosaic.TcCoe Idealize.SL.Sem
open Idealize.ShloMosaic.Pipeline (Dat)

variable (m : (ℓ : Loc nD τ sig) → Buf (Elt Ideal) ℓ) (c : Dev nD) (t : Fin cfg0.N)

/-- Tree `r` of block `t`. -/
def row (t : Fin cfg0.N) (r : Fin 16) : Fin 1024 := ⟨16 * t.val + r.val, by
  have h : t.val < 64 := lt_of_lt_of_eq t.isLt (by decide)
  omega⟩

/-- The blocks every point reads and stores. -/
theorem idx : ∀ t : Fin cfg0.N, win0_0.index t = ![t.val, 0, 0] ∧ win0_1.index t = ![t.val, 0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0] := (by decide +kernel : ∀ t : Fin grid0.N, _)

/-- Window 2 reads its whole array. -/
theorem emb2 (z : S768x128.Idx) : (win0_2.blk t).view.emb z = z := by
  funext a
  refine Fin.ext ?_
  match a with
  | ⟨0, _⟩ => blk_simp [idx t] <;> try omega
  | ⟨1, _⟩ => blk_simp [idx t] <;> try omega

/-- Window 3 reads its whole array. -/
theorem emb3 (z : S384x256.Idx) : (win0_3.blk t).view.emb z = z := by
  funext a
  refine Fin.ext ?_
  match a with
  | ⟨0, _⟩ => blk_simp [idx t] <;> try omega
  | ⟨1, _⟩ => blk_simp [idx t] <;> try omega

/-- Window 4 reads its whole array. -/
theorem emb4 (z : S192x128.Idx) : (win0_4.blk t).view.emb z = z := by
  funext a
  refine Fin.ext ?_
  match a with
  | ⟨0, _⟩ => blk_simp [idx t] <;> try omega
  | ⟨1, _⟩ => blk_simp [idx t] <;> try omega

/-- Window 5 reads its whole array. -/
theorem emb5 (z : S256x512.Idx) : (win0_5.blk t).view.emb z = z := by
  funext a
  refine Fin.ext ?_
  match a with
  | ⟨0, _⟩ => blk_simp [idx t] <;> try omega
  | ⟨1, _⟩ => blk_simp [idx t] <;> try omega

/-- Window 6 reads its whole array. -/
theorem emb6 (z : S128x128.Idx) : (win0_6.blk t).view.emb z = z := by
  funext a
  refine Fin.ext ?_
  match a with
  | ⟨0, _⟩ => blk_simp [idx t] <;> try omega
  | ⟨1, _⟩ => blk_simp [idx t] <;> try omega

/-- Window 7 reads its whole array. -/
theorem emb7 (z : S64x128.Idx) : (win0_7.blk t).view.emb z = z := by
  funext a
  refine Fin.ext ?_
  match a with
  | ⟨0, _⟩ => blk_simp [idx t] <;> try omega
  | ⟨1, _⟩ => blk_simp [idx t] <;> try omega

/-- Block `t` of window 0 is sixteen trees from tree `16 t` on. -/
theorem emb0 (z : S16x128x128.Idx) : (win0_0.blk t).view.emb z = ix3 (row t (z 0)) (z 1) (z 2) := by
  funext a
  refine Fin.ext ?_
  match a with
  | ⟨0, _⟩ => show _ = 16 * t.val + (z 0).val; blk_simp [idx t]; exact congrArg (· + (z 0).val) (Nat.mul_comm _ _)
  | ⟨1, _⟩ => show _ = (z 1).val; blk_simp [idx t]; rfl
  | ⟨2, _⟩ => show _ = (z 2).val; blk_simp [idx t]; rfl

/-- Block `t` of window 1 is sixteen trees from tree `16 t` on. -/
theorem emb1 (z : S16x3x128.Idx) : (win0_1.blk t).view.emb z = ix3 (row t (z 0)) (z 1) (z 2) := by
  funext a
  refine Fin.ext ?_
  match a with
  | ⟨0, _⟩ => show _ = 16 * t.val + (z 0).val; blk_simp [idx t]; exact congrArg (· + (z 0).val) (Nat.mul_comm _ _)
  | ⟨1, _⟩ => show _ = (z 1).val; blk_simp [idx t]; rfl
  | ⟨2, _⟩ => show _ = (z 2).val; blk_simp [idx t]; rfl

/-- Entry `y` of block `t` of the result is entry `16 t + y` of the array. -/
theorem emb8 (z : S16x1.Idx) : (win0_8.blk t).view.emb z 0 = row t (z 0) := by
  refine Fin.ext ?_
  show _ = 16 * t.val + (z 0).val
  blk_simp [idx t] <;> try omega

/-- The first layer's bias as the body reads it. -/
theorem blk5 (b : Fin 256 → ℝ) (h : m ((c : Thread nD τ).loc main_arg3) = line b) :
    View.ld (iblk m c 5 t : Vec Ideal S256x512 .f32) r0_48 = mat (bias4 b) := by
  funext i
  pointwise
  blk_simp [iblk]
  exact (congrArg (V m c main_v22) (emb5 t _)).trans (congrFun (v22 m c b h) _)

/-- The second layer's bias as the body reads it. -/
theorem blk6 (b : Fin 128 → ℝ) (h : m ((c : Thread nD τ).loc main_arg5) = line b) :
    View.ld (iblk m c 6 t : Vec Ideal S128x128 .f32) r0_57 = mat (bias b) := by
  funext i
  pointwise
  blk_simp [iblk]
  exact (congrArg (V m c main_v26) (emb6 t _)).trans (congrFun (v26 m c b h) _)

/-- The third layer's bias as the body reads it. -/
theorem blk7 (b : Fin 64 → ℝ) (h : m ((c : Thread nD τ).loc main_arg7) = line b) :
    View.ld (iblk m c 7 t : Vec Ideal S64x128 .f32) r0_59 = mat (bias b) := by
  funext i
  pointwise
  blk_simp [iblk]
  exact (congrArg (V m c main_v30) (emb7 t _)).trans (congrFun (v30 m c b h) _)

/-- The second layer's weights as the body reads them. -/
theorem blk3 (W : Fin 128 → Fin 256 → Fin 3 → ℝ) (h : m ((c : Thread nD τ).loc main_arg4) = cube W) :
    View.ld (iblk m c 3 t : Vec Ideal S384x256 .f32) r0_56 = mat (stack (by norm_num) (by norm_num) W) := by
  funext i
  pointwise
  blk_simp [iblk]
  exact (congrArg (V m c main_v8) (emb3 t _)).trans (congrFun (v8 m c W h) _)

/-- The third layer's weights as the body reads them. -/
theorem blk4 (W : Fin 64 → Fin 128 → Fin 3 → ℝ) (h : m ((c : Thread nD τ).loc main_arg6) = cube W) :
    View.ld (iblk m c 4 t : Vec Ideal S192x128 .f32) r0_58 = mat (stack (by norm_num) (by norm_num) W) := by
  funext i
  pointwise
  blk_simp [iblk]
  exact (congrArg (V m c main_v10) (emb4 t _)).trans (congrFun (v10 m c W h) _)

/-- The first layer's weights for one child as the body reads them. -/
theorem blk2 (W : Fin 256 → Fin 128 → Fin 3 → ℝ) (h : m ((c : Thread nD τ).loc main_arg2) = cube W) (k : Fin 3) :
    w1At (iblk m c 2 t : Vec Ideal S768x128 .f32) k = mat fun o d => W o d k := by
  funext i
  unfold w1At
  pointwise
  blk_simp [iblk]
  refine (congrArg (V m c main_v6) (emb2 t _)).trans ((congrFun (v6 m c W h) _).trans ?_)
  exact congrArg ((↑) : ℝ → EReal) (stack_at _ _ W k (i 0) (i 1) _)

/-- The features of one tree as the body reads them. -/
theorem blk0 (T : Fin 1024 → Fin 128 → Fin 128 → ℝ) (h : m ((c : Thread nD τ).loc main_arg0) = cube T) (r : Fin 16) :
    treeAt (iblk m c 0 t : Vec Ideal S16x128x128 .f32) r = tree (T (row t r)) := by
  funext i
  unfold treeAt
  pointwise
  blk_simp [iblk]
  exact (congrArg (V m c main_arg0) (emb0 t _)).trans (congrFun (a0 m c T h) _)

/-- The one-hot matrix of one tree and child as the body builds it. -/
theorem blk1 (s : Fin 1024 → Fin 127 → Fin 3 → Fin 128) (h : m ((c : Thread nD τ).loc main_arg1) = idxs s) (r : Fin 16) (k : Fin 3) :
    k0_pay2 (F := Ideal) (Group.idxAt (iblk m c 1 t : Vec Ideal S16x3x128 .i32) r k) = mat (onehot (pick (s (row t r)) k)) := by
  refine onehot_mat _ _ fun i => ?_
  unfold Group.idxAt
  pointwise
  blk_simp [iblk]
  exact (congrArg (V m c main_v4) (emb1 t _)).trans (v4 m c s h _)

/-- The block a point stores, from its sixteen trees' outputs. -/
theorem block (G : Fin 1024 → ℝ)
    (hG : ∀ g j, outAt (F := Ideal) (iblk m c 0 t) (iblk m c 1 t) (iblk m c 2 t) (iblk m c 3 t) (iblk m c 4 t) (iblk m c 5 t) (iblk m c 6 t) (iblk m c 7 t) g j
      = fun _ => ((G (row t (nth g j)) : ℝ) : EReal)) (y : S16x1.Idx) :
    out0_8 (F := Ideal) (iblk m c 0 t) (iblk m c 1 t) (iblk m c 2 t) (iblk m c 3 t) (iblk m c 4 t) (iblk m c 5 t) (iblk m c 6 t) (iblk m c 7 t) y
      = ((G (row t (y 0)) : ℝ) : EReal) := by
  rw [out0_8_eq]
  simp only [hG]
  canon_tiles x h
  all_goals
    exact congrArg (fun r : Fin 16 => ((G (row t r) : ℝ) : EReal))
      (Fin.ext (by rw [h0, show (x 0).val = 0 by omega]; rfl))

/-- The result array, from the outputs of every block's trees. -/
theorem result (G : Fin 1024 → ℝ)
    (hG : ∀ t g j, outAt (F := Ideal) (iblk m c 0 t) (iblk m c 1 t) (iblk m c 2 t) (iblk m c 3 t) (iblk m c 4 t) (iblk m c 5 t) (iblk m c 6 t) (iblk m c 7 t) g j
      = fun _ => ((G (row t (nth g j)) : ℝ) : EReal)) :
    (dats m 0 c).arrAt 8 cfg0.N = (fun i => ((G (i 0) : ℝ) : EReal) : FVec Ideal S1024x1 .f32) := by
  refine (dats m 0 c).arrAt_eq_of_covers 8 _ (by decide +kernel) fun t hf y => ?_
  blk_simp
  rw [after0_8]
  exact (block m c t G (hG t) y).trans (congrArg (fun r : Fin 1024 => ((G r : ℝ) : EReal)) (emb8 t y).symm)

/-- The result array: the network at every tree. -/
theorem value (T : Fin 1024 → Fin 128 → Fin 128 → ℝ) (s : Fin 1024 → Fin 127 → Fin 3 → Fin 128)
    (W1 : Fin 256 → Fin 128 → Fin 3 → ℝ) (b1 : Fin 256 → ℝ) (W2 : Fin 128 → Fin 256 → Fin 3 → ℝ) (b2 : Fin 128 → ℝ)
    (W3 : Fin 64 → Fin 128 → Fin 3 → ℝ) (b3 : Fin 64 → ℝ)
    (h0 : m ((c : Thread nD τ).loc main_arg0) = cube T) (h1 : m ((c : Thread nD τ).loc main_arg1) = idxs s)
    (h2 : m ((c : Thread nD τ).loc main_arg2) = cube W1) (h3 : m ((c : Thread nD τ).loc main_arg3) = line b1)
    (h4 : m ((c : Thread nD τ).loc main_arg4) = cube W2) (h5 : m ((c : Thread nD τ).loc main_arg5) = line b2)
    (h6 : m ((c : Thread nD τ).loc main_arg6) = cube W3) (h7 : m ((c : Thread nD τ).loc main_arg7) = line b3) :
    (dats m 0 c).arrAt 8 cfg0.N
      = (fun i => ((net W1 b1 W2 b2 W3 b3 (s (i 0)) (T (i 0)) : ℝ) : EReal) : FVec Ideal S1024x1 .f32) := by
  refine result m c (fun d => net W1 b1 W2 b2 W3 b3 (s d) (T d)) fun t g j => ?_
  show out (F := Ideal) (View.ld (iblk m c 5 t : Vec Ideal S256x512 .f32) r0_48) (w1At (iblk m c 2 t : Vec Ideal S768x128 .f32))
    (View.ld (iblk m c 6 t : Vec Ideal S128x128 .f32) r0_57) (View.ld (iblk m c 3 t : Vec Ideal S384x256 .f32) r0_56)
    (View.ld (iblk m c 7 t : Vec Ideal S64x128 .f32) r0_59) (View.ld (iblk m c 4 t : Vec Ideal S192x128 .f32) r0_58)
    (fun i => treeAt (iblk m c 0 t : Vec Ideal S16x128x128 .f32) (nth g i))
    (fun i k => k0_pay2 (F := Ideal) (Group.idxAt (iblk m c 1 t : Vec Ideal S16x3x128 .i32) (nth g i) k)) j = _
  rw [blk5 m c t b1 h3, blk6 m c t b2 h5, blk7 m c t b3 h7, blk3 m c t W2 h4, blk4 m c t W3 h6,
    show w1At (iblk m c 2 t : Vec Ideal S768x128 .f32) = fun k => mat fun o d => W1 o d k from funext (blk2 m c t W1 h2)]
  simp only [blk0 m c t T h0, blk1 m c t s h1]
  exact out_mat W1 b1 W2 b2 W3 b3 (fun i => s (row t (nth g i))) (fun i => T (row t (nth g i))) j

end Cert.Entry

end
-- ==== Proof.Ref.lean ====
/- The reference on real arguments: every entry is the network at its tree. -/
module

public import proofs.«01_k».proof.Proof.Gen.ReferenceIdeal.Run
public import proofs.«01_k».proof.Proof.GroupVal
public import proofs.«01_k».proof.Proof.Args
public import Idealize.ShloMosaic.Lib.Pointwise
public import Idealize.ShloMosaic.Lib.ReduceAll
public import Idealize.ShloMosaic.Lib.Claim
public import Idealize.ShloMosaic.Lib.Tactic.CleanTypes

@[expose] public section

set_option maxRecDepth 16384

noncomputable section

namespace Cert.Ref

open Cert.ReferenceIdeal Cert.ReferenceIdeal.Gen Idealize.ShloMosaic Idealize.ShloMosaic.TcCoe Idealize.SL.Sem Idealize.ShloMosaic.StableHlo
open Cert.ReferenceIdeal.Value Cert.Net

/-- The index words spread over the `C` channels. -/
def words (C : ℕ) (s : Fin 1024 → Fin 127 → Fin 3 → Fin 128) : IVec ⟨4, ![1024, C, 381, 1]⟩ 32 := fun i =>
  BitVec.ofNat 32 (entry (s (i 0)) (i 2)).val

/-- The gather along the last axis, one index per tree, channel and entry. -/
abbrev along (C : ℕ) (wf : GatherDims.WF ⟨3, ![1024, C, 128]⟩ ⟨4, ![1024, C, 381, 1]⟩ ⟨3, ![1024, C, 381]⟩ [] [2] [0, 1] [2] [0, 1] 3 ![1, 1, 1]) :
    GatherDims ⟨3, ![1024, C, 128]⟩ ⟨4, ![1024, C, 381, 1]⟩ ⟨3, ![1024, C, 381]⟩ where
  offsetDims := []
  collapsedSliceDims := [2]
  operandBatchingDims := [0, 1]
  startIndicesBatchingDims := [0, 1]
  startIndexMap := [2]
  indexVectorDim := 3
  sliceSizes := ![1, 1, 1]
  wf := wf

/-- That gather read at an entry: the operand at the entry's word, kept within the nodes. -/
theorem gather_along (C : ℕ) (wf) (x : FVec Ideal ⟨3, ![1024, C, 128]⟩ .f32) (idx : IVec ⟨4, ![1024, C, 381, 1]⟩ 32)
    (y : (⟨3, ![1024, C, 381]⟩ : Shape).Idx) :
    Host.gather (along C wf) x idx y = x (ix3 (y 0) (y 1) ⟨min (idx (ix4 (y 0) (y 1) (y 2) 0)).toInt.toNat 127, by omega⟩) := by
  unfold Host.gather
  congr 1
  funext a
  refine Fin.ext ?_
  match a with
  | ⟨0, _⟩ =>
    show (along C wf).start y idx 0 + (along C wf).batchCoord y 0 + (along C wf).offCoord y 0 = _
    rw [GatherDims.start_batching _ _ _ _ (show (0 : Fin 3) ∈ ([0, 1] : List (Fin 3)) by decide),
      GatherDims.offCoord_eq_zero _ _ _ (fun h => ((GatherDims.mem_sKept _ _).mp h).2 (show (0 : Fin 3) ∈ ([0, 1] : List (Fin 3)) by decide))]
    simp only [Nat.zero_add, Nat.add_zero]
    unfold GatherDims.batchCoord
    rw [dif_pos (show (0 : Fin 3) ∈ ([0, 1] : List (Fin 3)) by decide)]
    rfl
  | ⟨1, _⟩ =>
    show (along C wf).start y idx 1 + (along C wf).batchCoord y 1 + (along C wf).offCoord y 1 = _
    rw [GatherDims.start_batching _ _ _ _ (show (1 : Fin 3) ∈ ([0, 1] : List (Fin 3)) by decide),
      GatherDims.offCoord_eq_zero _ _ _ (fun h => ((GatherDims.mem_sKept _ _).mp h).2 (show (1 : Fin 3) ∈ ([0, 1] : List (Fin 3)) by decide))]
    simp only [Nat.zero_add, Nat.add_zero]
    unfold GatherDims.batchCoord
    rw [dif_pos (show (1 : Fin 3) ∈ ([0, 1] : List (Fin 3)) by decide)]
    rfl
  | ⟨2, _⟩ =>
    show (along C wf).start y idx 2 + (along C wf).batchCoord y 2 + (along C wf).offCoord y 2 = _
    rw [GatherDims.batchCoord_eq_zero _ _ _ (show (2 : Fin 3) ∉ ([0, 1] : List (Fin 3)) by decide),
      GatherDims.offCoord_eq_zero _ _ _ (fun h => ((GatherDims.mem_sKept _ _).mp h).1 (show (2 : Fin 3) ∈ ([2] : List (Fin 3)) by decide))]
    unfold GatherDims.start
    rw [dif_pos (show (2 : Fin 3) ∈ ([2] : List (Fin 3)) by decide)]
    have e : (along C wf).siIdx y ⟨List.idxOf (2 : Fin 3) (along C wf).startIndexMap,
        List.idxOf_lt_length_iff.2 (show (2 : Fin 3) ∈ ([2] : List (Fin 3)) by decide)⟩ = ix4 (y 0) (y 1) (y 2) 0 := by
      funext b; refine Fin.ext ?_
      match b with
      | ⟨0, _⟩ => rfl
      | ⟨1, _⟩ => rfl
      | ⟨2, _⟩ => rfl
      | ⟨3, _⟩ => rfl
    rw [e]
    rfl

/-- A node number's word reads back as the node number. -/
theorem word_toInt (a : Fin 128) : (BitVec.ofNat 32 a.val).toInt.toNat = a.val := by revert a; decide +kernel

/-- A node number's word is not below zero. -/
theorem word_slt (a : Fin 128) : IntOp.cmpi .slt (BitVec.ofNat 32 a.val) 0#32 = 0#1 := by revert a; decide +kernel

/-- A node number's word lies in range. -/
theorem word_inrange (a : Fin 128) : IntOp.andi (IntOp.cmpi .sge (BitVec.ofNat 32 a.val) 0#32)
    (IntOp.cmpi .sle (BitVec.ofNat 32 a.val) 127#32) = 1#1 := by revert a; decide +kernel

/-- The convolution at a node, by whether the node is node 0. -/
theorem conv_read {O C : ℕ} (W : Fin O → Fin C → Fin 3 → ℝ) (b : Fin O → ℝ) (s : Fin 127 → Fin 3 → Fin 128)
    (h : Fin C → Fin 128 → ℝ) (o : Fin O) (n : Fin 128) :
    (if hn : n.val < 1 then (0 : EReal)
      else (∑ c, ∑ k : Fin 3, ((W o c k : ℝ) : EReal) * ((h c (entry s ⟨(n.val - 1) * 3 + k.val, by omega⟩) : ℝ) : EReal)) + ((b o : ℝ) : EReal))
      = ((conv W b s h o n : ℝ) : EReal) := by
  unfold conv
  by_cases hn : n.val = 0
  · rw [dif_pos (by omega), dif_pos hn]; rfl
  · rw [dif_neg (by omega), dif_neg hn, EReal.coe_add, Mat.coe_sum]
    congr 1
    refine Finset.sum_congr rfl fun c _ => ?_
    rw [Mat.coe_sum]
    refine Finset.sum_congr rfl fun k _ => ?_
    rw [EReal.coe_mul, entry_at s ⟨n.val - 1, by omega⟩ k]

/-- The normalisation of real numbers, as the reference divides and sums. -/
theorem tln_read {R C : ℕ} (N : ℝ) (h1 : 1 < N) (x : Fin R → Fin C → ℝ) (r : Fin R) (c : Fin C) :
    Ideal.div (((x r c : ℝ) : EReal) - Ideal.div (∑ i, ∑ j, ((x i j : ℝ) : EReal)) ((N : ℝ) : EReal))
      (Ideal.sqrt (Ideal.div (∑ i, ∑ j, (((x i j : ℝ) : EReal) - Ideal.div (∑ i, ∑ j, ((x i j : ℝ) : EReal)) ((N : ℝ) : EReal))
        * (((x i j : ℝ) : EReal) - Ideal.div (∑ i, ∑ j, ((x i j : ℝ) : EReal)) ((N : ℝ) : EReal))) ((N - 1 : ℝ) : EReal))
        + ((eps : ℝ) : EReal)) = ((tln N x r c : ℝ) : EReal) := by
  have hv : 0 ≤ var N x := div_nonneg (total_sq_nonneg N x) (by linarith)
  have hp : Real.sqrt (var N x) + eps ≠ 0 := (add_pos_of_nonneg_of_pos (Real.sqrt_nonneg _) eps_pos).ne'
  have h0 : N ≠ 0 := by linarith
  have h0' : N - 1 ≠ 0 := by linarith
  have hm : Ideal.div (∑ i, ∑ j, ((x i j : ℝ) : EReal)) ((N : ℝ) : EReal) = ((mean N x : ℝ) : EReal) := by
    rw [Ideal.div_coe h0]
    simp only [← Mat.coe_sum, ← EReal.coe_mul, mul_one_div]
    rfl
  rw [hm]
  simp only [← EReal.coe_sub, ← EReal.coe_mul, ← Mat.coe_sum]
  rw [Ideal.div_coe h0', ← EReal.coe_mul, mul_one_div]
  change Ideal.div _ (Ideal.sqrt ((var N x : ℝ) : EReal) + _) = _
  rw [Ideal.sqrt_coe, if_neg (not_lt.2 hv), ← EReal.coe_add, Ideal.div_coe hp, ← EReal.coe_mul, mul_one_div]
  rfl

/-- One less than a count, as the reference computes it. -/
theorem count (N : ℝ) : ((N : ℝ) : EReal) - FloatOps.sitofp (F := Ideal) .f32 1#32 = ((N - 1 : ℝ) : EReal) := by
  show ((N : ℝ) : EReal) - (((1#32 : BitVec 32).toInt : ℝ) : EReal) = _
  rw [show (1#32 : BitVec 32).toInt = 1 by decide, Int.cast_one, ← EReal.coe_sub]

/-- The reference's normalisation, whose count `N` is given by its bits. -/
theorem tln_bits {R C : ℕ} (w : BitVec 32) (N : ℝ) (hw : Ideal.ofBits .f32 w = ((N : ℝ) : EReal)) (h1 : 1 < N)
    (x : Fin R → Fin C → ℝ) (r : Fin R) (c : Fin C) :
    Ideal.div (((x r c : ℝ) : EReal) - Ideal.div (∑ i, ∑ j, ((x i j : ℝ) : EReal)) (Ideal.ofBits .f32 w))
      (Ideal.sqrt (if 0 < Ideal.ofBits .f32 w - FloatOps.sitofp (F := Ideal) .f32 1#32 then
          Ideal.div (∑ i, ∑ j, (((x i j : ℝ) : EReal) - Ideal.div (∑ i, ∑ j, ((x i j : ℝ) : EReal)) (Ideal.ofBits .f32 w))
            * (((x i j : ℝ) : EReal) - Ideal.div (∑ i, ∑ j, ((x i j : ℝ) : EReal)) (Ideal.ofBits .f32 w)))
            (Ideal.ofBits .f32 w - FloatOps.sitofp (F := Ideal) .f32 1#32)
        else Ideal.ofBits .f32 0x7FC00000#32) + Ideal.ofBits .f32 0x3727C5AC#32) = ((tln N x r c : ℝ) : EReal) := by
  rw [hw, count, if_pos (by rw [← EReal.coe_zero]; exact EReal.coe_lt_coe_iff.2 (by linarith)),
    show Ideal.ofBits .f32 0x3727C5AC#32 = ((eps : ℝ) : EReal) from word_eps]
  exact tln_read N h1 x r c

variable (V0 : Valuation τ sig (Elt Ideal))

/-- Layer 1's index words after wrapping negative ones: none is negative, so they are the entries themselves. -/
theorem wrapped1 (s : Fin 1024 → Fin 127 → Fin 3 → Fin 128) (h1 : V0 (Proc.devRef .tc main_arg1) = idxs s) :
    res_main_call0_v5 V0 = words 128 s := by
  unfold res_main_call0_v5 res_main_v1
  rw [h1]
  funext i; unfold idxs words
  clean_types
  pointwise
  first
  | (rw [word_slt]; rfl)
  | (simp [word_slt]; done)

/-- Layer 2's index words after wrapping negative ones: none is negative, so they are the entries themselves. -/
theorem wrapped2 (s : Fin 1024 → Fin 127 → Fin 3 → Fin 128) (h1 : V0 (Proc.devRef .tc main_arg1) = idxs s) :
    res_main_call3_v5 V0 = words 256 s := by
  unfold res_main_call3_v5 res_main_v24
  rw [h1]
  funext i; unfold idxs words
  clean_types
  pointwise
  first
  | (rw [word_slt]; rfl)
  | (simp [word_slt]; done)

/-- Layer 3's index words after wrapping negative ones: none is negative, so they are the entries themselves. -/
theorem wrapped3 (s : Fin 1024 → Fin 127 → Fin 3 → Fin 128) (h1 : V0 (Proc.devRef .tc main_arg1) = idxs s) :
    res_main_call6_v5 V0 = words 128 s := by
  unfold res_main_call6_v5 res_main_v47
  rw [h1]
  funext i; unfold idxs words
  clean_types
  pointwise
  first
  | (rw [word_slt]; rfl)
  | (simp [word_slt]; done)

/-- With 128 channels: every index word is in range, so nothing is filled in. -/
theorem inrange_128 (s : Fin 1024 → Fin 127 → Fin 3 → Fin 128) :
    Host.reduce IntOp.andi (andi (cmpi .sge (words 128 s) (broadcastInDim S1024x128x381x1 ![] bcast_S_S1024x128x381x1 (constantI S_ 32 0#32))) (cmpi .sle (words 128 s) (broadcastInDim S1024x128x381x1 ![0, 1, 2, 3] bcast_S1x1x1x1_S1024x128x381x1_0_1_2_3 (broadcastInDim S1x1x1x1 ![3] bcast_S1_S1x1x1x1_3 (constantI S1 32 127#32))))) (constantI S_ 1 1#1) reducesTo_S1024x128x381x1_S1024x128x381_d3 h_S_ = fun _ => 1#1 := by
  funext j
  refine Host.reduce_andi_one _ _ _ _ _ rfl fun i => ?_
  unfold words
  pointwise
  exact word_inrange _

/-- With 256 channels: every index word is in range, so nothing is filled in. -/
theorem inrange_256 (s : Fin 1024 → Fin 127 → Fin 3 → Fin 128) :
    Host.reduce IntOp.andi (andi (cmpi .sge (words 256 s) (broadcastInDim S1024x256x381x1 ![] bcast_S_S1024x256x381x1 (constantI S_ 32 0#32))) (cmpi .sle (words 256 s) (broadcastInDim S1024x256x381x1 ![0, 1, 2, 3] bcast_S1x1x1x1_S1024x256x381x1_0_1_2_3 (broadcastInDim S1x1x1x1 ![3] bcast_S1_S1x1x1x1_3 (constantI S1 32 127#32))))) (constantI S_ 1 1#1) reducesTo_S1024x256x381x1_S1024x256x381_d3 h_S_ = fun _ => 1#1 := by
  funext j
  refine Host.reduce_andi_one _ _ _ _ _ rfl fun i => ?_
  unfold words
  pointwise
  exact word_inrange _

/-- The gather of real features along the index words: the features of the entries' nodes. -/
theorem gathered (C : ℕ) (wf) (s : Fin 1024 → Fin 127 → Fin 3 → Fin 128) (X : Fin 1024 → Fin C → Fin 128 → ℝ) :
    Host.gather (along C wf) (cube X : FVec Ideal ⟨3, ![1024, C, 128]⟩ .f32) (words C s) = cube fun b r e => X b r (entry (s b) e) := by
  funext y
  refine (gather_along C _ _ _ y).trans ?_
  show ((X (y 0) (y 1) ⟨min (BitVec.ofNat 32 (entry (s (y 0)) (y 2)).val).toInt.toNat 127, _⟩ : ℝ) : EReal)
    = ((X (y 0) (y 1) (entry (s (y 0)) (y 2)) : ℝ) : EReal)
  congr 2
  refine Fin.ext ?_
  show min _ 127 = _
  rw [word_toInt]; omega

/-- The same for 128 channels. -/
theorem gathered_128 (s : Fin 1024 → Fin 127 → Fin 3 → Fin 128) (X : Fin 1024 → Fin 128 → Fin 128 → ℝ) :
    Host.gather gather_S1024x128x128_S1024x128x381x1_S1024x128x381_n_2_01_01_2_3_111 (cube X) (words 128 s)
      = cube fun b r e => X b r (entry (s b) e) := gathered 128 _ s X

/-- The same for 256 channels. -/
theorem gathered_256 (s : Fin 1024 → Fin 127 → Fin 3 → Fin 128) (X : Fin 1024 → Fin 256 → Fin 128 → ℝ) :
    Host.gather gather_S1024x256x128_S1024x256x381x1_S1024x256x381_n_2_01_01_2_3_111 (cube X) (words 256 s)
      = cube fun b r e => X b r (entry (s b) e) := gathered 256 _ s X

/-- The activation of 256 channels of real numbers. -/
theorem act_256 (X : Fin 1024 → Fin 256 → Fin 128 → ℝ) :
    (select (cmpf .oge (cube X) (broadcastInDim S1024x256x128 ![] bcast_S_S1024x256x128 (constant S_ .f32 0x00000000#32))) (cube X) (mulf (broadcastInDim S1024x256x128 ![] bcast_S_S1024x256x128 (id (constant S_ .f32 0x3C23D70A#32))) (cube X)))
      = cube fun d r e => leaky (X d r e) := by
  simp only [id_eq]
  funext i; unfold cube leaky
  pointwise
  rw [word_slope]
  simp only [EReal.coe_nonneg, ← EReal.coe_mul]
  split_ifs <;> rfl

/-- The activation of 128 channels of real numbers. -/
theorem act_128 (X : Fin 1024 → Fin 128 → Fin 128 → ℝ) :
    (select (cmpf .oge (cube X) (broadcastInDim S1024x128x128 ![] bcast_S_S1024x128x128 (constant S_ .f32 0x00000000#32))) (cube X) (mulf (broadcastInDim S1024x128x128 ![] bcast_S_S1024x128x128 (id (constant S_ .f32 0x3C23D70A#32))) (cube X)))
      = cube fun d r e => leaky (X d r e) := by
  simp only [id_eq]
  funext i; unfold cube leaky
  pointwise
  rw [word_slope]
  simp only [EReal.coe_nonneg, ← EReal.coe_mul]
  split_ifs <;> rfl

/-- Layer 1's convolution in the reference is the network's. -/
theorem conv1 (s : Fin 1024 → Fin 127 → Fin 3 → Fin 128) (T : Fin 1024 → Fin 128 → Fin 128 → ℝ)
    (W : Fin 256 → Fin 128 → Fin 3 → ℝ) (b : Fin 256 → ℝ) (h0 : V0 (Proc.devRef .tc main_arg0) = cube T)
    (h1 : V0 (Proc.devRef .tc main_arg1) = idxs s) (h2 : V0 (Proc.devRef .tc main_arg2) = cube W)
    (h3 : V0 (Proc.devRef .tc main_arg3) = line b) : res_main_v10 V0 = cube fun d => conv W b (s d) (T d) := by
  unfold res_main_v10
  rw [wrapped1 V0 s h1, inrange_128, h0, h2, h3, gathered_128]
  funext i; unfold cube line
  clean_types
  pointwise
  exact conv_read W b (s (i 0)) (T (i 0)) (i 1) (i 2)

/-- Layer 1's normalisation in the reference is the network's. -/
theorem norm1 (X : Fin 1024 → Fin 256 → Fin 128 → ℝ) (h : res_main_v10 V0 = cube X) :
    res_main_v21 V0 = cube fun d => tln 32768 (X d) := by
  unfold res_main_v21 res_main_call1_call0_v5 res_main_call1_call0_v8
  rw [h]
  simp only [id_eq]
  funext i; unfold cube
  clean_types
  pointwise
  exact tln_bits _ _ word_n1 (by norm_num) (X (i 0)) (i 1) (i 2)

/-- Layer 2's convolution in the reference is the network's. -/
theorem conv2 (s : Fin 1024 → Fin 127 → Fin 3 → Fin 128) (T : Fin 1024 → Fin 256 → Fin 128 → ℝ)
    (W : Fin 128 → Fin 256 → Fin 3 → ℝ) (b : Fin 128 → ℝ) (h0 : res_main_v21 V0 = cube T)
    (h1 : V0 (Proc.devRef .tc main_arg1) = idxs s) (h2 : V0 (Proc.devRef .tc main_arg4) = cube W)
    (h3 : V0 (Proc.devRef .tc main_arg5) = line b) : res_main_v33 V0 = cube fun d => conv W b (s d) (fun r e => leaky (T d r e)) := by
  unfold res_main_v33
  rw [wrapped2 V0 s h1, inrange_256, h0, h2, h3, act_256, gathered_256]
  funext i; unfold cube line
  clean_types
  pointwise
  exact conv_read W b (s (i 0)) (fun r e => leaky (T (i 0) r e)) (i 1) (i 2)

/-- Layer 2's normalisation in the reference is the network's. -/
theorem norm2 (X : Fin 1024 → Fin 128 → Fin 128 → ℝ) (h : res_main_v33 V0 = cube X) :
    res_main_v44 V0 = cube fun d => tln 16384 (X d) := by
  unfold res_main_v44 res_main_call4_call0_v5 res_main_call4_call0_v8
  rw [h]
  simp only [id_eq]
  funext i; unfold cube
  clean_types
  pointwise
  exact tln_bits _ _ word_n2 (by norm_num) (X (i 0)) (i 1) (i 2)

/-- Layer 3's convolution in the reference is the network's. -/
theorem conv3 (s : Fin 1024 → Fin 127 → Fin 3 → Fin 128) (T : Fin 1024 → Fin 128 → Fin 128 → ℝ)
    (W : Fin 64 → Fin 128 → Fin 3 → ℝ) (b : Fin 64 → ℝ) (h0 : res_main_v44 V0 = cube T)
    (h1 : V0 (Proc.devRef .tc main_arg1) = idxs s) (h2 : V0 (Proc.devRef .tc main_arg6) = cube W)
    (h3 : V0 (Proc.devRef .tc main_arg7) = line b) : res_main_v56 V0 = cube fun d => conv W b (s d) (fun r e => leaky (T d r e)) := by
  unfold res_main_v56
  rw [wrapped3 V0 s h1, inrange_128, h0, h2, h3, act_128, gathered_128]
  funext i; unfold cube line
  clean_types
  pointwise
  exact conv_read W b (s (i 0)) (fun r e => leaky (T (i 0) r e)) (i 1) (i 2)

/-- Layer 3's normalisation in the reference is the network's. -/
theorem norm3 (X : Fin 1024 → Fin 64 → Fin 128 → ℝ) (h : res_main_v56 V0 = cube X) :
    (Host.divf (subf (res_main_v56 V0) (broadcastInDim S1024x64x128 ![0, 1, 2] bcast_S1024x1x1_S1024x64x128_0_1_2 (Host.divf (broadcastInDim S1024x1x1 ![0] bcast_S1024_S1024x1x1_0 (Host.reduceAdd (res_main_v56 V0) (constant S_ .f32 0x00000000#32) reducesTo_S1024x64x128_S1024_d1_2 h_S_)) (broadcastInDim S1024x1x1 ![] bcast_S_S1024x1x1 (constant S_ .f32 0x46000000#32))))) (broadcastInDim S1024x64x128 ![0, 1, 2] bcast_S1024x1x1_S1024x64x128_0_1_2 (addf (Host.sqrt (select (broadcastInDim S1024x1x1 ![] bcast_S_S1024x1x1 (cmpf .ogt (res_main_call7_call0_v8 V0) (constant S_ .f32 0x00000000#32))) (Host.divf (broadcastInDim S1024x1x1 ![0] bcast_S1024_S1024x1x1_0 (Host.reduceAdd (mulf (res_main_call7_call0_v5 V0) (res_main_call7_call0_v5 V0)) (constant S_ .f32 0x00000000#32) reducesTo_S1024x64x128_S1024_d1_2 h_S_)) (broadcastInDim S1024x1x1 ![] bcast_S_S1024x1x1 (res_main_call7_call0_v8 V0))) (broadcastInDim S1024x1x1 ![] bcast_S_S1024x1x1 (id (constant S_ .f32 0x7FC00000#32))))) (broadcastInDim S1024x1x1 ![] bcast_S_S1024x1x1 (constant S_ .f32 0x3727C5AC#32))))) = cube fun d => tln 8192 (X d) := by
  unfold res_main_call7_call0_v5 res_main_call7_call0_v8
  rw [h]
  simp only [id_eq]
  funext i; unfold cube
  clean_types
  pointwise
  exact tln_bits _ _ word_n3 (by norm_num) (X (i 0)) (i 1) (i 2)

/-- The sum of the rows' largest elements, folded from minus infinity. -/
theorem pool_read {R : ℕ} (x : Fin R → Fin 128 → ℝ) :
    ∑ r, Finset.fold max (Ideal.ofBits .f32 0xFF800000#32) (fun c => ((x r c : ℝ) : EReal)) Finset.univ = ((Net.pool x : ℝ) : EReal) := by
  rw [show Ideal.ofBits .f32 0xFF800000#32 = (⊥ : EReal) from word_bot]
  simp only [Mat.fold_max, Mat.coe_sum, Net.pool]

/-- The pooling of real features in the reference is the network's. -/
theorem pooled (Y : Fin 1024 → Fin 64 → Fin 128 → ℝ) :
    broadcastInDim S1024x1 ![0] bcast_S1024_S1024x1_0 (Host.reduceAdd (Host.reduce FloatOps.maximumf (cube Y) (constant S_ .f32 0xFF800000#32) reducesTo_S1024x64x128_S1024x64_d2 h_S_) (constant S_ .f32 0x00000000#32) reducesTo_S1024x64_S1024_d1 h_S_) = fun i => ((Net.pool (Y (i 0)) : ℝ) : EReal) := by
  funext i; unfold cube
  clean_types
  pointwise
  exact pool_read (Y (i 0))

/-- The reference's result on real arguments: the network at every tree. -/
theorem value (T : Fin 1024 → Fin 128 → Fin 128 → ℝ) (s : Fin 1024 → Fin 127 → Fin 3 → Fin 128)
    (W1 : Fin 256 → Fin 128 → Fin 3 → ℝ) (b1 : Fin 256 → ℝ) (W2 : Fin 128 → Fin 256 → Fin 3 → ℝ) (b2 : Fin 128 → ℝ)
    (W3 : Fin 64 → Fin 128 → Fin 3 → ℝ) (b3 : Fin 64 → ℝ)
    (h0 : V0 (Proc.devRef .tc main_arg0) = cube T) (h1 : V0 (Proc.devRef .tc main_arg1) = idxs s)
    (h2 : V0 (Proc.devRef .tc main_arg2) = cube W1) (h3 : V0 (Proc.devRef .tc main_arg3) = line b1)
    (h4 : V0 (Proc.devRef .tc main_arg4) = cube W2) (h5 : V0 (Proc.devRef .tc main_arg5) = line b2)
    (h6 : V0 (Proc.devRef .tc main_arg6) = cube W3) (h7 : V0 (Proc.devRef .tc main_arg7) = line b3) :
    broadcastInDim S1024x1 ![0] bcast_S1024_S1024x1_0 (Host.reduceAdd (Host.reduce FloatOps.maximumf (Host.divf (subf (res_main_v56 V0) (broadcastInDim S1024x64x128 ![0, 1, 2] bcast_S1024x1x1_S1024x64x128_0_1_2 (Host.divf (broadcastInDim S1024x1x1 ![0] bcast_S1024_S1024x1x1_0 (Host.reduceAdd (res_main_v56 V0) (constant S_ .f32 0x00000000#32) reducesTo_S1024x64x128_S1024_d1_2 h_S_)) (broadcastInDim S1024x1x1 ![] bcast_S_S1024x1x1 (constant S_ .f32 0x46000000#32))))) (broadcastInDim S1024x64x128 ![0, 1, 2] bcast_S1024x1x1_S1024x64x128_0_1_2 (addf (Host.sqrt (select (broadcastInDim S1024x1x1 ![] bcast_S_S1024x1x1 (cmpf .ogt (res_main_call7_call0_v8 V0) (constant S_ .f32 0x00000000#32))) (Host.divf (broadcastInDim S1024x1x1 ![0] bcast_S1024_S1024x1x1_0 (Host.reduceAdd (mulf (res_main_call7_call0_v5 V0) (res_main_call7_call0_v5 V0)) (constant S_ .f32 0x00000000#32) reducesTo_S1024x64x128_S1024_d1_2 h_S_)) (broadcastInDim S1024x1x1 ![] bcast_S_S1024x1x1 (res_main_call7_call0_v8 V0))) (broadcastInDim S1024x1x1 ![] bcast_S_S1024x1x1 (id (constant S_ .f32 0x7FC00000#32))))) (broadcastInDim S1024x1x1 ![] bcast_S_S1024x1x1 (constant S_ .f32 0x3727C5AC#32))))) (constant S_ .f32 0xFF800000#32) reducesTo_S1024x64x128_S1024x64_d2 h_S_) (constant S_ .f32 0x00000000#32) reducesTo_S1024x64_S1024_d1 h_S_) = fun i => ((Mat.net W1 b1 W2 b2 W3 b3 (s (i 0)) (T (i 0)) : ℝ) : EReal) := by
  have e1 := norm1 V0 _ (conv1 V0 s T W1 b1 h0 h1 h2 h3)
  have e2 := norm2 V0 _ (conv2 V0 s _ W2 b2 e1 h1 h4 h5)
  rw [norm3 V0 _ (conv3 V0 s _ W3 b3 e2 h1 h6 h7)]
  exact pooled _

end Cert.Ref

end
-- ==== Proof.Decode.lean ====
/- What the precondition says of the arguments: the numbers are real and the indices name nodes. -/
module

public import proofs.«01_k».proof.Defs
public import proofs.«01_k».proof.Proof.Gen.Pre_finite_in_range
public import proofs.«01_k».proof.Proof.Gen.KernelIdeal.Value
public import proofs.«01_k».proof.Proof.Args
public import Idealize.ShloMosaic.Lib.Pointwise
public import Idealize.ShloMosaic.Lib.ReduceAll

@[expose] public section

set_option maxRecDepth 16384

noncomputable section

namespace Cert.Decode

open Idealize.ShloMosaic Cert.Net Cert.KernelIdeal Idealize.ShloMosaic.TcCoe Idealize.SL.Sem

/-- A number whose magnitude is below infinity is a real number. -/
theorem real_of (a : EReal) (h : FloatOps.cmpf (F := Ideal) .olt (FloatOps.absf (F := Ideal) (φ := .f32) a) (FloatOps.ofBits (F := Ideal) .f32 0x7F800000#32) = 1#1) :
    ∃ r : ℝ, a = (r : EReal) := by
  rw [show FloatOps.ofBits (F := Ideal) .f32 0x7F800000#32 = (⊤ : EReal) from word_top] at h
  induction a using EReal.rec with
  | bot => exfalso; revert h; simp [FloatOps.cmpf, FloatOps.absf, Ideal.cmp]
  | top => exfalso; revert h; simp [FloatOps.cmpf, FloatOps.absf, Ideal.cmp]
  | coe r => exact ⟨r, rfl⟩

/-- A three-axis argument whose elements are real numbers. -/
theorem cube_of {A B C : ℕ} (x : FVec Ideal ⟨3, ![A, B, C]⟩ .f32) (h : ∀ i, ∃ r : ℝ, x i = ((r : ℝ) : EReal)) : ∃ f, x = cube f := by
  choose g hg using h
  refine ⟨fun a b d => g (ix3 a b d), funext fun i => (hg i).trans ?_⟩
  show ((g i : ℝ) : EReal) = ((g (ix3 (i 0) (i 1) (i 2)) : ℝ) : EReal)
  congr 2
  funext a
  match a with
  | ⟨0, _⟩ => rfl
  | ⟨1, _⟩ => rfl
  | ⟨2, _⟩ => rfl

/-- A one-axis argument whose elements are real numbers. -/
theorem line_of {A : ℕ} (x : FVec Ideal ⟨1, ![A]⟩ .f32) (h : ∀ i, ∃ r : ℝ, x i = ((r : ℝ) : EReal)) : ∃ f, x = line f := by
  choose g hg using h
  refine ⟨fun a => g (ix1 a), funext fun i => (hg i).trans ?_⟩
  show ((g i : ℝ) : EReal) = ((g (ix1 (i 0)) : ℝ) : EReal)
  congr 2
  funext a
  match a with
  | ⟨0, _⟩ => rfl

/-- An index that is at least zero and below 128. -/
theorem range_of (w : BitVec 32) (h : IntOp.andi (IntOp.cmpi .sge w 0#32) (IntOp.cmpi .slt w 128#32) = 1#1) : w.toNat < 128 := by
  have hb : ∀ p q : Bool, IntOp.andi (BitVec.ofBool p) (BitVec.ofBool q) = 1#1 → p = true ∧ q = true := by decide
  obtain ⟨h1, h2⟩ := hb (BitVec.sle 0#32 w) (BitVec.slt w 128#32) h
  rw [BitVec.sle_eq_decide, decide_eq_true_eq, show (0#32 : BitVec 32).toInt = 0 by decide] at h1
  rw [BitVec.slt_eq_decide, decide_eq_true_eq, show (128#32 : BitVec 32).toInt = 128 by decide] at h2
  have hw := w.isLt
  rw [BitVec.toInt_eq_toNat_cond] at h1 h2
  split at h1 <;> omega

/-- An index argument whose entries are below 128. -/
theorem idxs_of (x : IVec ⟨3, ![1024, 381, 1]⟩ 32) (h : ∀ i, (x i).toNat < 128) : ∃ s, x = idxs s := by
  refine ⟨fun b n k => ⟨(x (ix3 b ⟨n.val * 3 + k.val, by omega⟩ 0)).toNat, h _⟩, funext fun i => ?_⟩
  have lt : (i 1).val < 381 := (i 1).isLt
  have e : i = ix3 (i 0) ⟨(i 1).val / 3 * 3 + (i 1).val % 3, by omega⟩ 0 := by
    funext a
    refine Fin.ext ?_
    match a with
    | ⟨0, _⟩ => rfl
    | ⟨1, _⟩ => show (i 1).val = (i 1).val / 3 * 3 + (i 1).val % 3; omega
    | ⟨2, _⟩ => have h2 : (i 2).val < 1 := (i 2).isLt
                show (i 2).val = 0; omega
  show x i = BitVec.ofNat 32 (x (ix3 (i 0) ⟨(i 1).val / 3 * 3 + (i 1).val % 3, _⟩ 0)).toNat
  rw [BitVec.ofNat_toNat, BitVec.setWidth_eq]
  exact congrArg x e

variable (m : (ℓ : Loc nD τ sig) → Buf (Elt Ideal) ℓ)

/-- The precondition on the arguments: real numbers and node numbers. -/
theorem decode (h : Cert.Pre_KernelIdeal_finite_in_range m) (c : Dev nD) :
    ∃ (T : Fin 1024 → Fin 128 → Fin 128 → ℝ) (s : Fin 1024 → Fin 127 → Fin 3 → Fin 128)
      (W1 : Fin 256 → Fin 128 → Fin 3 → ℝ) (b1 : Fin 256 → ℝ) (W2 : Fin 128 → Fin 256 → Fin 3 → ℝ) (b2 : Fin 128 → ℝ)
      (W3 : Fin 64 → Fin 128 → Fin 3 → ℝ) (b3 : Fin 64 → ℝ),
      m ((c : Thread nD τ).loc main_arg0) = cube T ∧ m ((c : Thread nD τ).loc main_arg1) = idxs s
      ∧ m ((c : Thread nD τ).loc main_arg2) = cube W1 ∧ m ((c : Thread nD τ).loc main_arg3) = line b1
      ∧ m ((c : Thread nD τ).loc main_arg4) = cube W2 ∧ m ((c : Thread nD τ).loc main_arg5) = line b2
      ∧ m ((c : Thread nD τ).loc main_arg6) = cube W3 ∧ m ((c : Thread nD τ).loc main_arg7) = line b3 := by
  have hc := h c
  simp only [Cert.Pre_finite_in_range.fn, Cert.Pre_finite_in_range.fn_part1, Cert.Pre_finite_in_range.fn_part2] at hc
  obtain ⟨e0, e2, e3, e4, e5, e6, e7, e1⟩ := hc
  have q0 := Host.reduce_andi_all _ _ _ _ ix0 (congrFun e0 ix0)
  have q2 := Host.reduce_andi_all _ _ _ _ ix0 (congrFun e2 ix0)
  have q3 := Host.reduce_andi_all _ _ _ _ ix0 (congrFun e3 ix0)
  have q4 := Host.reduce_andi_all _ _ _ _ ix0 (congrFun e4 ix0)
  have q5 := Host.reduce_andi_all _ _ _ _ ix0 (congrFun e5 ix0)
  have q6 := Host.reduce_andi_all _ _ _ _ ix0 (congrFun e6 ix0)
  have q7 := Host.reduce_andi_all _ _ _ _ ix0 (congrFun e7 ix0)
  have q1 := Host.reduce_andi_all _ _ _ _ ix0 (congrFun e1 ix0)
  obtain ⟨T, h0⟩ := cube_of (m ((c : Thread nD τ).loc main_arg0)) fun i => real_of _ (q0 i)
  obtain ⟨W1, h2⟩ := cube_of (m ((c : Thread nD τ).loc main_arg2)) fun i => real_of _ (q2 i)
  obtain ⟨b1, h3⟩ := line_of (m ((c : Thread nD τ).loc main_arg3)) fun i => real_of _ (q3 i)
  obtain ⟨W2, h4⟩ := cube_of (m ((c : Thread nD τ).loc main_arg4)) fun i => real_of _ (q4 i)
  obtain ⟨b2, h5⟩ := line_of (m ((c : Thread nD τ).loc main_arg5)) fun i => real_of _ (q5 i)
  obtain ⟨W3, h6⟩ := cube_of (m ((c : Thread nD τ).loc main_arg6)) fun i => real_of _ (q6 i)
  obtain ⟨b3, h7⟩ := line_of (m ((c : Thread nD τ).loc main_arg7)) fun i => real_of _ (q7 i)
  obtain ⟨s, h1⟩ := idxs_of (m ((c : Thread nD τ).loc main_arg1)) fun i => range_of _ (q1 i)
  exact ⟨T, s, W1, b1, W2, b2, W3, b3, h0, h1, h2, h3, h4, h5, h6, h7⟩

end Cert.Decode

end
-- ==== Proof.lean ====
/- The certificate's claims, assembled: each program leaves its arguments as they were and every
   semaphore counter at zero, the idealized kernel is the kernel's own text, and on real arguments
   whose indices name nodes the kernel's result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Pre_finite_in_range
public import proofs.«01_k».proof.Proof.KernelVal
public import proofs.«01_k».proof.Proof.Ref
public import proofs.«01_k».proof.Proof.Decode
public import Idealize.ShloMosaic.Adequacy
public import Idealize.ShloMosaic.Lib.Claim
public import Idealize.ShloMosaic.Init

@[expose] public section

noncomputable section

namespace Cert.Proof

open Idealize.ShloMosaic Idealize.SL.Sem Cert.Kernel

/-- The reference, a line of host operations, ends with its arguments unchanged and its counters at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- On arguments the precondition admits, the kernel and the reference end with the same result: the network at every tree. -/
theorem same_result : Cert.algebraic_KernelIdeal_ReferenceIdeal_pre_finite_in_range (hKernelIdeal := Cert.KernelIdeal.Gen.facts)
    (hReferenceIdeal := Cert.ReferenceIdeal.Gen.facts) (hPre_finite_in_range := Cert.Pre_finite_in_range.Gen.facts) := by
  intro m g m' g' hp hm
  refine ⟨fun c => (Cert.KernelIdeal.Gen.dats m 0 c).arrAt 8 Cert.KernelIdeal.cfg0.N, Cert.KernelIdeal.Value.run_blocks m g, ?_⟩
  refine (θ_run _ _ _).mono (fun r h c => ⟨(h c).1.trans ?_, (h c).2⟩) (Cert.ReferenceIdeal.Value.run (F := Ideal) m' g')
  obtain ⟨T, s, W1, b1, W2, b2, W3, b3, h0, h1, h2, h3, h4, h5, h6, h7⟩ := Decode.decode m hp c
  obtain ⟨a0, a1, a2, a3, a4, a5, a6, a7⟩ := hm c
  refine (Ref.value _ T s W1 b1 W2 b2 W3 b3 (a0.trans h0) (a1.trans h1) (a2.trans h2) (a3.trans h3) (a4.trans h4) (a5.trans h5)
    (a6.trans h6) (a7.trans h7)).trans ?_
  exact (Entry.value m c T s W1 b1 W2 b2 W3 b3 h0 h1 h2 h3 h4 h5 h6 h7).symm

/-- Every claim of the certificate. -/
theorem claim : Cert.Claim := ⟨Cert.Kernel.Gen.facts, Cert.KernelIdeal.Gen.facts, Cert.ReferenceIdeal.Gen.facts,
  Cert.Pre_finite_in_range.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, same_result⟩

end Cert.Proof

end
